-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x8192 : Shape := ⟨2, ![4096, 8192]⟩
abbrev S1 : Shape := ⟨1, ![1]⟩
abbrev S512x8192 : Shape := ⟨2, ![512, 8192]⟩
abbrev S4096x512 : Shape := ⟨2, ![4096, 512]⟩
abbrev S512x512 : Shape := ⟨2, ![512, 512]⟩
abbrev S4096x1024 : Shape := ⟨2, ![4096, 1024]⟩
abbrev S14x512x512 : Shape := ⟨3, ![14, 512, 512]⟩
abbrev S16x512x512 : Shape := ⟨3, ![16, 512, 512]⟩
abbrev S16 : Shape := ⟨1, ![16]⟩
abbrev S14 : Shape := ⟨1, ![14]⟩
abbrev S_ : Shape := ⟨0, ![]⟩
abbrev S1x512x512 : Shape := ⟨3, ![1, 512, 512]⟩

abbrev nBuf : Space → Nat
  | .hbm => 6
  | .vmem => 9
  | .smem => 2
  | _ => 0

abbrev bufTy : (tb : Table) → Fin (tcTables nBuf tb) → BufTy
  | .hbm, ⟨0, _⟩ => ⟨S512x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S512x8192, .bf16⟩
  | .hbm, ⟨5, _⟩ => ⟨S4096x1024, .f32⟩
  | .local _ .vmem, ⟨0, _⟩ => ⟨S512x4096, .fp8e5m2⟩
  | .local _ .vmem, ⟨1, _⟩ => ⟨S4096x512, .fp8e5m2⟩
  | .local _ .vmem, ⟨2, _⟩ => ⟨S4096x512, .fp8e5m2⟩
  | .local _ .vmem, ⟨3, _⟩ => ⟨S512x512, .bf16⟩
  | .local _ .vmem, ⟨4, _⟩ => ⟨S512x512, .bf16⟩
  | .local _ .vmem, ⟨5, _⟩ => ⟨S512x4096, .fp8e5m2⟩
  | .local _ .vmem, ⟨6, _⟩ => ⟨S512x8192, .bf16⟩
  | .local _ .vmem, ⟨7, _⟩ => ⟨S14x512x512, .bf16⟩
  | .local _ .vmem, ⟨8, _⟩ => ⟨S16x512x512, .f32⟩
  | .local _ .smem, ⟨0, _⟩ => ⟨S1, .f32⟩
  | .local _ .smem, ⟨1, _⟩ => ⟨S1, .f32⟩
  | _, _ => ⟨S512x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_scratch0 : Ref sig .tc := ⟨.vmem, 7, rfl⟩
abbrev cc1_scratch1 : Ref sig .tc := ⟨.vmem, 8, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev barrier0 : Sem sig := 0

abbrev nD : Nat := 8
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

def k1_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k1_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k1_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k1_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k1_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k1_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k1_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k1_off1 (d0 : Dev nD) (c0_i32_64 : BitVec 32) (c0_i32_72 : BitVec 32) : Fin 2 → Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c0_i32_64
  let c1_i32_65 : BitVec 32 := 1#32
  let v96 : BitVec 32 := Scalar.addi v95 c1_i32_65
  let c8_i32_66 : BitVec 32 := 8#32
  let c0_i32_67 : BitVec 32 := 0#32
  let v97 : BitVec 1 := Scalar.cmpi .eq c8_i32_66 c0_i32_67
  let c1_i32_68 : BitVec 32 := 1#32
  let v98 : BitVec 32 := Scalar.select v97 c1_i32_68 c8_i32_66
  let v99 : BitVec 32 := Scalar.remsi v96 v98
  let c0_i32_70 : BitVec 32 := 0#32
  let v101 : BitVec 1 := Scalar.cmpi .slt v99 c0_i32_70
  let c0_i32_71 : BitVec 32 := 0#32
  let v102 : BitVec 1 := Scalar.cmpi .slt v98 c0_i32_71
  let v103 : BitVec 1 := Scalar.xori v101 v102
  let c0_i32_69 : BitVec 32 := 0#32
  let v100 : BitVec 1 := Scalar.cmpi .ne v99 c0_i32_69
  let v104 : BitVec 1 := Scalar.andi v103 v100
  let v105 : BitVec 32 := Scalar.addi v99 v98
  let v106 : BitVec 32 := Scalar.select v104 v105 v99
  let c1024_i32 : BitVec 32 := 1024#32
  let v107 : BitVec 32 := Scalar.muli v106 c1024_i32
  let v108 : BitVec 32 := Scalar.addi v107 c0_i32_72
  ![0, v108.toNat]
def k1_dev8 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_64 : BitVec 32 := 0#32
  let v95 : BitVec 32 := Scalar.addi v2 c0_i32_64
  let c1_i32_65 : BitVec 32 := 1#32
  let v96 : BitVec 32 := Scalar.addi v95 c1_i32_65
  let c8_i32_66 : BitVec 32 := 8#32
  let c0_i32_67 : BitVec 32 := 0#32
  let v97 : BitVec 1 := Scalar.cmpi .eq c8_i32_66 c0_i32_67
  let c1_i32_68 : BitVec 32 := 1#32
  let v98 : BitVec 32 := Scalar.select v97 c1_i32_68 c8_i32_66
  let v99 : BitVec 32 := Scalar.remsi v96 v98
  let c0_i32_70 : BitVec 32 := 0#32
  let v101 : BitVec 1 := Scalar.cmpi .slt v99 c0_i32_70
  let c0_i32_71 : BitVec 32 := 0#32
  let v102 : BitVec 1 := Scalar.cmpi .slt v98 c0_i32_71
  let v103 : BitVec 1 := Scalar.xori v101 v102
  let c0_i32_69 : BitVec 32 := 0#32
  let v100 : BitVec 1 := Scalar.cmpi .ne v99 c0_i32_69
  let v104 : BitVec 1 := Scalar.andi v103 v100
  let v105 : BitVec 32 := Scalar.addi v99 v98
  let v106 : BitVec 32 := Scalar.select v104 v105 v99
  let c1_i32_76 : BitVec 32 := 1#32
  let v109 : BitVec 32 := Scalar.muli v106 c1_i32_76
  let v110 : BitVec 32 := Scalar.addi c0_i32_77 v109
  v110.toNat
def k1_dev9 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_81 : BitVec 32 := 0#32
  let v118 : BitVec 32 := Scalar.addi v2 c0_i32_81
  let c1_i32_82 : BitVec 32 := 1#32
  let v119 : BitVec 32 := Scalar.addi v118 c1_i32_82
  let c8_i32_83 : BitVec 32 := 8#32
  let c0_i32_84 : BitVec 32 := 0#32
  let v120 : BitVec 1 := Scalar.cmpi .eq c8_i32_83 c0_i32_84
  let c1_i32_85 : BitVec 32 := 1#32
  let v121 : BitVec 32 := Scalar.select v120 c1_i32_85 c8_i32_83
  let v122 : BitVec 32 := Scalar.remsi v119 v121
  let c0_i32_87 : BitVec 32 := 0#32
  let v124 : BitVec 1 := Scalar.cmpi .slt v122 c0_i32_87
  let c0_i32_88 : BitVec 32 := 0#32
  let v125 : BitVec 1 := Scalar.cmpi .slt v121 c0_i32_88
  let v126 : BitVec 1 := Scalar.xori v124 v125
  let c0_i32_86 : BitVec 32 := 0#32
  let v123 : BitVec 1 := Scalar.cmpi .ne v122 c0_i32_86
  let v127 : BitVec 1 := Scalar.andi v126 v123
  let v128 : BitVec 32 := Scalar.addi v122 v121
  let v129 : BitVec 32 := Scalar.select v127 v128 v122
  let c1_i32_93 : BitVec 32 := 1#32
  let v132 : BitVec 32 := Scalar.muli v129 c1_i32_93
  let v133 : BitVec 32 := Scalar.addi c0_i32_94 v132
  v133.toNat
def k1_dev10 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_98 : BitVec 32 := 1#32
  let v141 : BitVec 32 := Scalar.addi v2 c1_i32_98
  let c1_i32_99 : BitVec 32 := 1#32
  let v142 : BitVec 32 := Scalar.addi v141 c1_i32_99
  let c8_i32_100 : BitVec 32 := 8#32
  let c0_i32_101 : BitVec 32 := 0#32
  let v143 : BitVec 1 := Scalar.cmpi .eq c8_i32_100 c0_i32_101
  let c1_i32_102 : BitVec 32 := 1#32
  let v144 : BitVec 32 := Scalar.select v143 c1_i32_102 c8_i32_100
  let v145 : BitVec 32 := Scalar.remsi v142 v144
  let c0_i32_104 : BitVec 32 := 0#32
  let v147 : BitVec 1 := Scalar.cmpi .slt v145 c0_i32_104
  let c0_i32_105 : BitVec 32 := 0#32
  let v148 : BitVec 1 := Scalar.cmpi .slt v144 c0_i32_105
  let v149 : BitVec 1 := Scalar.xori v147 v148
  let c0_i32_103 : BitVec 32 := 0#32
  let v146 : BitVec 1 := Scalar.cmpi .ne v145 c0_i32_103
  let v150 : BitVec 1 := Scalar.andi v149 v146
  let v151 : BitVec 32 := Scalar.addi v145 v144
  let v152 : BitVec 32 := Scalar.select v150 v151 v145
  let c1_i32_111 : BitVec 32 := 1#32
  let v155 : BitVec 32 := Scalar.muli v152 c1_i32_111
  let v156 : BitVec 32 := Scalar.addi c0_i32_112 v155
  v156.toNat
def k1_dev11 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_116 : BitVec 32 := 1#32
  let v164 : BitVec 32 := Scalar.addi v2 c1_i32_116
  let c1_i32_117 : BitVec 32 := 1#32
  let v165 : BitVec 32 := Scalar.addi v164 c1_i32_117
  let c8_i32_118 : BitVec 32 := 8#32
  let c0_i32_119 : BitVec 32 := 0#32
  let v166 : BitVec 1 := Scalar.cmpi .eq c8_i32_118 c0_i32_119
  let c1_i32_120 : BitVec 32 := 1#32
  let v167 : BitVec 32 := Scalar.select v166 c1_i32_120 c8_i32_118
  let v168 : BitVec 32 := Scalar.remsi v165 v167
  let c0_i32_122 : BitVec 32 := 0#32
  let v170 : BitVec 1 := Scalar.cmpi .slt v168 c0_i32_122
  let c0_i32_123 : BitVec 32 := 0#32
  let v171 : BitVec 1 := Scalar.cmpi .slt v167 c0_i32_123
  let v172 : BitVec 1 := Scalar.xori v170 v171
  let c0_i32_121 : BitVec 32 := 0#32
  let v169 : BitVec 1 := Scalar.cmpi .ne v168 c0_i32_121
  let v173 : BitVec 1 := Scalar.andi v172 v169
  let v174 : BitVec 32 := Scalar.addi v168 v167
  let v175 : BitVec 32 := Scalar.select v173 v174 v168
  let c1_i32_129 : BitVec 32 := 1#32
  let v178 : BitVec 32 := Scalar.muli v175 c1_i32_129
  let v179 : BitVec 32 := Scalar.addi c0_i32_130 v178
  v179.toNat
def k1_dev12 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_134 : BitVec 32 := 2#32
  let v187 : BitVec 32 := Scalar.addi v2 c2_i32_134
  let c1_i32_135 : BitVec 32 := 1#32
  let v188 : BitVec 32 := Scalar.addi v187 c1_i32_135
  let c8_i32_136 : BitVec 32 := 8#32
  let c0_i32_137 : BitVec 32 := 0#32
  let v189 : BitVec 1 := Scalar.cmpi .eq c8_i32_136 c0_i32_137
  let c1_i32_138 : BitVec 32 := 1#32
  let v190 : BitVec 32 := Scalar.select v189 c1_i32_138 c8_i32_136
  let v191 : BitVec 32 := Scalar.remsi v188 v190
  let c0_i32_140 : BitVec 32 := 0#32
  let v193 : BitVec 1 := Scalar.cmpi .slt v191 c0_i32_140
  let c0_i32_141 : BitVec 32 := 0#32
  let v194 : BitVec 1 := Scalar.cmpi .slt v190 c0_i32_141
  let v195 : BitVec 1 := Scalar.xori v193 v194
  let c0_i32_139 : BitVec 32 := 0#32
  let v192 : BitVec 1 := Scalar.cmpi .ne v191 c0_i32_139
  let v196 : BitVec 1 := Scalar.andi v195 v192
  let v197 : BitVec 32 := Scalar.addi v191 v190
  let v198 : BitVec 32 := Scalar.select v196 v197 v191
  let c1_i32_147 : BitVec 32 := 1#32
  let v201 : BitVec 32 := Scalar.muli v198 c1_i32_147
  let v202 : BitVec 32 := Scalar.addi c0_i32_148 v201
  v202.toNat
def k1_dev13 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_152 : BitVec 32 := 2#32
  let v210 : BitVec 32 := Scalar.addi v2 c2_i32_152
  let c1_i32_153 : BitVec 32 := 1#32
  let v211 : BitVec 32 := Scalar.addi v210 c1_i32_153
  let c8_i32_154 : BitVec 32 := 8#32
  let c0_i32_155 : BitVec 32 := 0#32
  let v212 : BitVec 1 := Scalar.cmpi .eq c8_i32_154 c0_i32_155
  let c1_i32_156 : BitVec 32 := 1#32
  let v213 : BitVec 32 := Scalar.select v212 c1_i32_156 c8_i32_154
  let v214 : BitVec 32 := Scalar.remsi v211 v213
  let c0_i32_158 : BitVec 32 := 0#32
  let v216 : BitVec 1 := Scalar.cmpi .slt v214 c0_i32_158
  let c0_i32_159 : BitVec 32 := 0#32
  let v217 : BitVec 1 := Scalar.cmpi .slt v213 c0_i32_159
  let v218 : BitVec 1 := Scalar.xori v216 v217
  let c0_i32_157 : BitVec 32 := 0#32
  let v215 : BitVec 1 := Scalar.cmpi .ne v214 c0_i32_157
  let v219 : BitVec 1 := Scalar.andi v218 v215
  let v220 : BitVec 32 := Scalar.addi v214 v213
  let v221 : BitVec 32 := Scalar.select v219 v220 v214
  let c1_i32_165 : BitVec 32 := 1#32
  let v224 : BitVec 32 := Scalar.muli v221 c1_i32_165
  let v225 : BitVec 32 := Scalar.addi c0_i32_166 v224
  v225.toNat
def k1_dev14 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_170 : BitVec 32 := 3#32
  let v233 : BitVec 32 := Scalar.addi v2 c3_i32_170
  let c1_i32_171 : BitVec 32 := 1#32
  let v234 : BitVec 32 := Scalar.addi v233 c1_i32_171
  let c8_i32_172 : BitVec 32 := 8#32
  let c0_i32_173 : BitVec 32 := 0#32
  let v235 : BitVec 1 := Scalar.cmpi .eq c8_i32_172 c0_i32_173
  let c1_i32_174 : BitVec 32 := 1#32
  let v236 : BitVec 32 := Scalar.select v235 c1_i32_174 c8_i32_172
  let v237 : BitVec 32 := Scalar.remsi v234 v236
  let c0_i32_176 : BitVec 32 := 0#32
  let v239 : BitVec 1 := Scalar.cmpi .slt v237 c0_i32_176
  let c0_i32_177 : BitVec 32 := 0#32
  let v240 : BitVec 1 := Scalar.cmpi .slt v236 c0_i32_177
  let v241 : BitVec 1 := Scalar.xori v239 v240
  let c0_i32_175 : BitVec 32 := 0#32
  let v238 : BitVec 1 := Scalar.cmpi .ne v237 c0_i32_175
  let v242 : BitVec 1 := Scalar.andi v241 v238
  let v243 : BitVec 32 := Scalar.addi v237 v236
  let v244 : BitVec 32 := Scalar.select v242 v243 v237
  let c1_i32_183 : BitVec 32 := 1#32
  let v247 : BitVec 32 := Scalar.muli v244 c1_i32_183
  let v248 : BitVec 32 := Scalar.addi c0_i32_184 v247
  v248.toNat
def k1_dev15 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_188 : BitVec 32 := 3#32
  let v256 : BitVec 32 := Scalar.addi v2 c3_i32_188
  let c1_i32_189 : BitVec 32 := 1#32
  let v257 : BitVec 32 := Scalar.addi v256 c1_i32_189
  let c8_i32_190 : BitVec 32 := 8#32
  let c0_i32_191 : BitVec 32 := 0#32
  let v258 : BitVec 1 := Scalar.cmpi .eq c8_i32_190 c0_i32_191
  let c1_i32_192 : BitVec 32 := 1#32
  let v259 : BitVec 32 := Scalar.select v258 c1_i32_192 c8_i32_190
  let v260 : BitVec 32 := Scalar.remsi v257 v259
  let c0_i32_194 : BitVec 32 := 0#32
  let v262 : BitVec 1 := Scalar.cmpi .slt v260 c0_i32_194
  let c0_i32_195 : BitVec 32 := 0#32
  let v263 : BitVec 1 := Scalar.cmpi .slt v259 c0_i32_195
  let v264 : BitVec 1 := Scalar.xori v262 v263
  let c0_i32_193 : BitVec 32 := 0#32
  let v261 : BitVec 1 := Scalar.cmpi .ne v260 c0_i32_193
  let v265 : BitVec 1 := Scalar.andi v264 v261
  let v266 : BitVec 32 := Scalar.addi v260 v259
  let v267 : BitVec 32 := Scalar.select v265 v266 v260
  let c1_i32_201 : BitVec 32 := 1#32
  let v270 : BitVec 32 := Scalar.muli v267 c1_i32_201
  let v271 : BitVec 32 := Scalar.addi c0_i32_202 v270
  v271.toNat
def k1_dev16 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_206 : BitVec 32 := 4#32
  let v279 : BitVec 32 := Scalar.addi v2 c4_i32_206
  let c1_i32_207 : BitVec 32 := 1#32
  let v280 : BitVec 32 := Scalar.addi v279 c1_i32_207
  let c8_i32_208 : BitVec 32 := 8#32
  let c0_i32_209 : BitVec 32 := 0#32
  let v281 : BitVec 1 := Scalar.cmpi .eq c8_i32_208 c0_i32_209
  let c1_i32_210 : BitVec 32 := 1#32
  let v282 : BitVec 32 := Scalar.select v281 c1_i32_210 c8_i32_208
  let v283 : BitVec 32 := Scalar.remsi v280 v282
  let c0_i32_212 : BitVec 32 := 0#32
  let v285 : BitVec 1 := Scalar.cmpi .slt v283 c0_i32_212
  let c0_i32_213 : BitVec 32 := 0#32
  let v286 : BitVec 1 := Scalar.cmpi .slt v282 c0_i32_213
  let v287 : BitVec 1 := Scalar.xori v285 v286
  let c0_i32_211 : BitVec 32 := 0#32
  let v284 : BitVec 1 := Scalar.cmpi .ne v283 c0_i32_211
  let v288 : BitVec 1 := Scalar.andi v287 v284
  let v289 : BitVec 32 := Scalar.addi v283 v282
  let v290 : BitVec 32 := Scalar.select v288 v289 v283
  let c1_i32_219 : BitVec 32 := 1#32
  let v293 : BitVec 32 := Scalar.muli v290 c1_i32_219
  let v294 : BitVec 32 := Scalar.addi c0_i32_220 v293
  v294.toNat
def k1_dev17 (d0 : Dev nD) : Nat :=
  let c0_i32_237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_224 : BitVec 32 := 4#32
  let v302 : BitVec 32 := Scalar.addi v2 c4_i32_224
  let c1_i32_225 : BitVec 32 := 1#32
  let v303 : BitVec 32 := Scalar.addi v302 c1_i32_225
  let c8_i32_226 : BitVec 32 := 8#32
  let c0_i32_227 : BitVec 32 := 0#32
  let v304 : BitVec 1 := Scalar.cmpi .eq c8_i32_226 c0_i32_227
  let c1_i32_228 : BitVec 32 := 1#32
  let v305 : BitVec 32 := Scalar.select v304 c1_i32_228 c8_i32_226
  let v306 : BitVec 32 := Scalar.remsi v303 v305
  let c0_i32_230 : BitVec 32 := 0#32
  let v308 : BitVec 1 := Scalar.cmpi .slt v306 c0_i32_230
  let c0_i32_231 : BitVec 32 := 0#32
  let v309 : BitVec 1 := Scalar.cmpi .slt v305 c0_i32_231
  let v310 : BitVec 1 := Scalar.xori v308 v309
  let c0_i32_229 : BitVec 32 := 0#32
  let v307 : BitVec 1 := Scalar.cmpi .ne v306 c0_i32_229
  let v311 : BitVec 1 := Scalar.andi v310 v307
  let v312 : BitVec 32 := Scalar.addi v306 v305
  let v313 : BitVec 32 := Scalar.select v311 v312 v306
  let c1_i32_236 : BitVec 32 := 1#32
  let v316 : BitVec 32 := Scalar.muli v313 c1_i32_236
  let v317 : BitVec 32 := Scalar.addi c0_i32_237 v316
  v317.toNat
def k1_dev18 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_241 : BitVec 32 := 5#32
  let v325 : BitVec 32 := Scalar.addi v2 c5_i32_241
  let c1_i32_242 : BitVec 32 := 1#32
  let v326 : BitVec 32 := Scalar.addi v325 c1_i32_242
  let c8_i32_243 : BitVec 32 := 8#32
  let c0_i32_244 : BitVec 32 := 0#32
  let v327 : BitVec 1 := Scalar.cmpi .eq c8_i32_243 c0_i32_244
  let c1_i32_245 : BitVec 32 := 1#32
  let v328 : BitVec 32 := Scalar.select v327 c1_i32_245 c8_i32_243
  let v329 : BitVec 32 := Scalar.remsi v326 v328
  let c0_i32_247 : BitVec 32 := 0#32
  let v331 : BitVec 1 := Scalar.cmpi .slt v329 c0_i32_247
  let c0_i32_248 : BitVec 32 := 0#32
  let v332 : BitVec 1 := Scalar.cmpi .slt v328 c0_i32_248
  let v333 : BitVec 1 := Scalar.xori v331 v332
  let c0_i32_246 : BitVec 32 := 0#32
  let v330 : BitVec 1 := Scalar.cmpi .ne v329 c0_i32_246
  let v334 : BitVec 1 := Scalar.andi v333 v330
  let v335 : BitVec 32 := Scalar.addi v329 v328
  let v336 : BitVec 32 := Scalar.select v334 v335 v329
  let c1_i32_253 : BitVec 32 := 1#32
  let v339 : BitVec 32 := Scalar.muli v336 c1_i32_253
  let v340 : BitVec 32 := Scalar.addi c0_i32_254 v339
  v340.toNat
def k1_dev19 (d0 : Dev nD) : Nat :=
  let c0_i32_271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_258 : BitVec 32 := 5#32
  let v348 : BitVec 32 := Scalar.addi v2 c5_i32_258
  let c1_i32_259 : BitVec 32 := 1#32
  let v349 : BitVec 32 := Scalar.addi v348 c1_i32_259
  let c8_i32_260 : BitVec 32 := 8#32
  let c0_i32_261 : BitVec 32 := 0#32
  let v350 : BitVec 1 := Scalar.cmpi .eq c8_i32_260 c0_i32_261
  let c1_i32_262 : BitVec 32 := 1#32
  let v351 : BitVec 32 := Scalar.select v350 c1_i32_262 c8_i32_260
  let v352 : BitVec 32 := Scalar.remsi v349 v351
  let c0_i32_264 : BitVec 32 := 0#32
  let v354 : BitVec 1 := Scalar.cmpi .slt v352 c0_i32_264
  let c0_i32_265 : BitVec 32 := 0#32
  let v355 : BitVec 1 := Scalar.cmpi .slt v351 c0_i32_265
  let v356 : BitVec 1 := Scalar.xori v354 v355
  let c0_i32_263 : BitVec 32 := 0#32
  let v353 : BitVec 1 := Scalar.cmpi .ne v352 c0_i32_263
  let v357 : BitVec 1 := Scalar.andi v356 v353
  let v358 : BitVec 32 := Scalar.addi v352 v351
  let v359 : BitVec 32 := Scalar.select v357 v358 v352
  let c1_i32_270 : BitVec 32 := 1#32
  let v362 : BitVec 32 := Scalar.muli v359 c1_i32_270
  let v363 : BitVec 32 := Scalar.addi c0_i32_271 v362
  v363.toNat
def k1_dev20 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_275 : BitVec 32 := 6#32
  let v371 : BitVec 32 := Scalar.addi v2 c6_i32_275
  let c1_i32_276 : BitVec 32 := 1#32
  let v372 : BitVec 32 := Scalar.addi v371 c1_i32_276
  let c8_i32_277 : BitVec 32 := 8#32
  let c0_i32_278 : BitVec 32 := 0#32
  let v373 : BitVec 1 := Scalar.cmpi .eq c8_i32_277 c0_i32_278
  let c1_i32_279 : BitVec 32 := 1#32
  let v374 : BitVec 32 := Scalar.select v373 c1_i32_279 c8_i32_277
  let v375 : BitVec 32 := Scalar.remsi v372 v374
  let c0_i32_281 : BitVec 32 := 0#32
  let v377 : BitVec 1 := Scalar.cmpi .slt v375 c0_i32_281
  let c0_i32_282 : BitVec 32 := 0#32
  let v378 : BitVec 1 := Scalar.cmpi .slt v374 c0_i32_282
  let v379 : BitVec 1 := Scalar.xori v377 v378
  let c0_i32_280 : BitVec 32 := 0#32
  let v376 : BitVec 1 := Scalar.cmpi .ne v375 c0_i32_280
  let v380 : BitVec 1 := Scalar.andi v379 v376
  let v381 : BitVec 32 := Scalar.addi v375 v374
  let v382 : BitVec 32 := Scalar.select v380 v381 v375
  let c1_i32_287 : BitVec 32 := 1#32
  let v385 : BitVec 32 := Scalar.muli v382 c1_i32_287
  let v386 : BitVec 32 := Scalar.addi c0_i32_288 v385
  v386.toNat
def k1_dev21 (d0 : Dev nD) : Nat :=
  let c0_i32_305 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_292 : BitVec 32 := 6#32
  let v394 : BitVec 32 := Scalar.addi v2 c6_i32_292
  let c1_i32_293 : BitVec 32 := 1#32
  let v395 : BitVec 32 := Scalar.addi v394 c1_i32_293
  let c8_i32_294 : BitVec 32 := 8#32
  let c0_i32_295 : BitVec 32 := 0#32
  let v396 : BitVec 1 := Scalar.cmpi .eq c8_i32_294 c0_i32_295
  let c1_i32_296 : BitVec 32 := 1#32
  let v397 : BitVec 32 := Scalar.select v396 c1_i32_296 c8_i32_294
  let v398 : BitVec 32 := Scalar.remsi v395 v397
  let c0_i32_298 : BitVec 32 := 0#32
  let v400 : BitVec 1 := Scalar.cmpi .slt v398 c0_i32_298
  let c0_i32_299 : BitVec 32 := 0#32
  let v401 : BitVec 1 := Scalar.cmpi .slt v397 c0_i32_299
  let v402 : BitVec 1 := Scalar.xori v400 v401
  let c0_i32_297 : BitVec 32 := 0#32
  let v399 : BitVec 1 := Scalar.cmpi .ne v398 c0_i32_297
  let v403 : BitVec 1 := Scalar.andi v402 v399
  let v404 : BitVec 32 := Scalar.addi v398 v397
  let v405 : BitVec 32 := Scalar.select v403 v404 v398
  let c1_i32_304 : BitVec 32 := 1#32
  let v408 : BitVec 32 := Scalar.muli v405 c1_i32_304
  let v409 : BitVec 32 := Scalar.addi c0_i32_305 v408
  v409.toNat
def k1_off2 (d0 : Dev nD) (c0_i32_310 : BitVec 32) : Fin 2 → Nat :=
  let c0 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_309 : BitVec 32 := 1024#32
  let v417 : BitVec 32 := Scalar.muli v2 c1024_i32_309
  let v418 : BitVec 32 := Scalar.addi v417 c0_i32_310
  let v419 : Index := Scalar.indexCast v418
  ![0, v419.toNat]
def k1_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_313 : BitVec 32 := 512#32
  let v426 : BitVec 32 := Scalar.muli v2 c512_i32_313
  let c0_i32_315 : BitVec 32 := 0#32
  ![v426.toNat, 0]
def k1_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_323 : BitVec 32 := 512#32
  let v441 : BitVec 32 := Scalar.muli v2 c512_i32_323
  let c512_i32_325 : BitVec 32 := 512#32
  ![v441.toNat, 512]
def k1_off5 (d0 : Dev nD) (c0_i32_328 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v447 : BitVec 32 := Scalar.subi v2 c0_i32_328
  let c1_i32_329 : BitVec 32 := 1#32
  let v448 : BitVec 32 := Scalar.subi v447 c1_i32_329
  let c8_i32_330 : BitVec 32 := 8#32
  let c0_i32_331 : BitVec 32 := 0#32
  let v449 : BitVec 1 := Scalar.cmpi .eq c8_i32_330 c0_i32_331
  let c1_i32_332 : BitVec 32 := 1#32
  let v450 : BitVec 32 := Scalar.select v449 c1_i32_332 c8_i32_330
  let v451 : BitVec 32 := Scalar.remsi v448 v450
  let c0_i32_334 : BitVec 32 := 0#32
  let v453 : BitVec 1 := Scalar.cmpi .slt v451 c0_i32_334
  let c0_i32_335 : BitVec 32 := 0#32
  let v454 : BitVec 1 := Scalar.cmpi .slt v450 c0_i32_335
  let v455 : BitVec 1 := Scalar.xori v453 v454
  let c0_i32_333 : BitVec 32 := 0#32
  let v452 : BitVec 1 := Scalar.cmpi .ne v451 c0_i32_333
  let v456 : BitVec 1 := Scalar.andi v455 v452
  let v457 : BitVec 32 := Scalar.addi v451 v450
  let v458 : BitVec 32 := Scalar.select v456 v457 v451
  let c512_i32_351 : BitVec 32 := 512#32
  let v472 : BitVec 32 := Scalar.muli v458 c512_i32_351
  let c0_i32_354 : BitVec 32 := 0#32
  ![v472.toNat, 0]
def k1_off6 (d0 : Dev nD) (c0_i32_357 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v478 : BitVec 32 := Scalar.subi v2 c0_i32_357
  let c1_i32_358 : BitVec 32 := 1#32
  let v479 : BitVec 32 := Scalar.subi v478 c1_i32_358
  let c8_i32_359 : BitVec 32 := 8#32
  let c0_i32_360 : BitVec 32 := 0#32
  let v480 : BitVec 1 := Scalar.cmpi .eq c8_i32_359 c0_i32_360
  let c1_i32_361 : BitVec 32 := 1#32
  let v481 : BitVec 32 := Scalar.select v480 c1_i32_361 c8_i32_359
  let v482 : BitVec 32 := Scalar.remsi v479 v481
  let c0_i32_363 : BitVec 32 := 0#32
  let v484 : BitVec 1 := Scalar.cmpi .slt v482 c0_i32_363
  let c0_i32_364 : BitVec 32 := 0#32
  let v485 : BitVec 1 := Scalar.cmpi .slt v481 c0_i32_364
  let v486 : BitVec 1 := Scalar.xori v484 v485
  let c0_i32_362 : BitVec 32 := 0#32
  let v483 : BitVec 1 := Scalar.cmpi .ne v482 c0_i32_362
  let v487 : BitVec 1 := Scalar.andi v486 v483
  let v488 : BitVec 32 := Scalar.addi v482 v481
  let v489 : BitVec 32 := Scalar.select v487 v488 v482
  let c512_i32_379 : BitVec 32 := 512#32
  let v503 : BitVec 32 := Scalar.muli v489 c512_i32_379
  let c512_i32_382 : BitVec 32 := 512#32
  ![v503.toNat, 512]
abbrev stage1_0 : Fin 1 → Memref sig .tc .vmem S512x8192 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 9
  | .vmem => 3
  | .smem => 0
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S4096x8192, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Program.lean ====
/- The exchange's kernel body as seven loops. The printed body unrolls them; `body_eq` says the two are one program. -/
module

public import proofs.«01_k».proof.Proof.Gen.KernelIdeal.Skeleton

@[expose] public section

noncomputable section

namespace Cert.KernelIdeal.Exchange

open Idealize.ShloMosaic Idealize.ShloMosaic.TcCoe Idealize.SL.Sem Cert.KernelIdeal Cert.KernelIdeal.Gen

variable {F : FTy → Type} [FloatOps F]

/-- A kernel body's program on a TensorCore. -/
abbrev Body (F : FTy → Type) : Type 1 := Prog (TpuEff nD τ sig (Elt F) Λ₀ .tc) PUnit

/-- Run `f` on each entry of the list, in order. -/
def each {α : Type} (f : α → Body F) : List α → Body F
  | [] => .ret ⟨⟩
  | a :: l => f a >>= fun _ => each f l

/-- A transfer's index: which of the seven peers, and which half of its column block. -/
abbrev Slot : Type := Fin 7 × Fin 2

/-- The place of a transfer's index among the fourteen slots. -/
def Slot.pos (k : Slot) : Fin 14 := ⟨2 * k.1.val + k.2.val, by omega⟩
/-- The place of a slot, and of an own half, among the sixteen widened blocks. -/
def Slot.blk (k : Slot) : Fin 16 := k.pos.castLE (by decide)
def own (h : Fin 2) : Fin 16 := ⟨14 + h.val, by omega⟩

/-- The peers, in the order the barrier signals them. -/
def peers : List (Fin 7) := [0, 1, 2, 3, 4, 5, 6]
/-- The transfers, in the order the kernel issues and awaits them. -/
def slots : List Slot := [(0, 0), (0, 1), (1, 0), (1, 1), (2, 0), (2, 1), (3, 0), (3, 1), (4, 0), (4, 1), (5, 0), (5, 1), (6, 0), (6, 1)]
/-- The two halves of a device's own column block. -/
def halves : List (Fin 2) := [0, 1]

/-! ## The buffers and their pieces -/

/-- The product's rows on this device, staged in vector memory. -/
abbrev yM : Memref sig .tc .vmem S512x8192 .bf16 := Memref.whole cc1_stg0_0
/-- The result. -/
abbrev outM : Memref sig .tc .hbm S4096x1024 .f32 := Memref.whole main_v2
/-- The fourteen landing slots. -/
abbrev rcvM : Memref sig .tc .vmem S14x512x512 .bf16 := Memref.whole cc1_scratch0
/-- The sixteen blocks widened to the result's type. -/
abbrev stgM : Memref sig .tc .vmem S16x512x512 .f32 := Memref.whole cc1_scratch1

theorem rcv_inb (t : Fin 14) : ∀ a, (![t.val, 0, 0] : Fin 3 → Nat) a + S1x512x512.size a ≤ S14x512x512.size a := by
  revert t; decide
theorem stg_inb (t : Fin 16) : ∀ a, (![t.val, 0, 0] : Fin 3 → Nat) a + S1x512x512.size a ≤ S16x512x512.size a := by
  revert t; decide
theorem rcv_words (t : Fin 14) :
    (Rect.unit (s := S14x512x512) ![t.val, 0, 0] S1x512x512.size (rcv_inb t)).WholeWords (EltTy.packing .bf16) := by
  revert t; decide
theorem sem14_inb (t : Fin 14) : ∀ a, (![t.val] : Fin 1 → Nat) a + S1.size a ≤ S14.size a := by revert t; decide
theorem sem16_inb (t : Fin 16) : ∀ a, (![t.val] : Fin 1 → Nat) a + S1.size a ≤ S16.size a := by revert t; decide

/-- A landing slot's rectangle in the landing buffer, and a widened block's in the staging buffer. -/
abbrev rcvR (t : Fin 14) : Rect S14x512x512 := Rect.unit (s := S14x512x512) ![t.val, 0, 0] S1x512x512.size (rcv_inb t)
abbrev stgR (t : Fin 16) : Rect S16x512x512 := Rect.unit (s := S16x512x512) ![t.val, 0, 0] S1x512x512.size (stg_inb t)

/-- Landing slot `t`, and widened block `t`, each as a 512 by 512 block. -/
abbrev rcvV (t : Fin 14) : Memref sig .tc .vmem S512x512 .bf16 := (rcvM.slice (rcvR t) (fun _ => rfl)).squeeze S512x512 squeezes_S1x512x512_S512x512
abbrev stgV (t : Fin 16) : Memref sig .tc .vmem S512x512 .f32 := (stgM.slice (stgR t) (fun _ => rfl)).squeeze S512x512 squeezes_S1x512x512_S512x512

/-- The piece of the product that transfer `k` of device `c` sends. -/
abbrev yV (c : Dev nD) (k : Slot) : Memref sig .tc .vmem S512x512 .bf16 :=
  yM.slice (Rect.unit (s := S512x8192) (k1_off1 c (BitVec.ofNat 32 k.1.val) (BitVec.ofNat 32 (512 * k.2.val))) S512x512.size (k1_off1_inb c k.1 k.2)) (fun _ => rfl)
/-- The rectangle of the product that device `c` keeps, half `h`. -/
abbrev ownR (c : Dev nD) (h : Fin 2) : Rect S512x8192 :=
  Rect.unit (s := S512x8192) (k1_off2 c (BitVec.ofNat 32 (512 * h.val))) S512x512.size (k1_off2_inb c h)

/-- The result's 512 by 512 tile at offset `o`. -/
abbrev tile (o : Fin 2 → Nat) (ho : ∀ a, o a + S512x512.size a ≤ S4096x1024.size a) : Memref sig .tc .hbm S512x512 .f32 :=
  outM.slice (Rect.unit (s := S4096x1024) o S512x512.size ho) (fun _ => rfl)
/-- Where the result's tile lies that slot `k` of device `c` fills, and where the one that own half `h` fills. -/
def outOff (c : Dev nD) : Slot → Fin 2 → Nat
  | (a, 0) => k1_off5 c (BitVec.ofNat 32 a.val)
  | (a, 1) => k1_off6 c (BitVec.ofNat 32 a.val)
def ownOff (c : Dev nD) : Fin 2 → Fin 2 → Nat
  | 0 => k1_off3 c
  | 1 => k1_off4 c
theorem outOff_inb (c : Dev nD) : ∀ (k : Slot) (a), outOff c k a + S512x512.size a ≤ S4096x1024.size a
  | (a, 0) => k1_off5_inb c a
  | (a, 1) => k1_off6_inb c a
theorem ownOff_inb (c : Dev nD) : ∀ (h : Fin 2) (a), ownOff c h a + S512x512.size a ≤ S4096x1024.size a
  | 0 => k1_off3_inb c
  | 1 => k1_off4_inb c
/-- The result's tiles themselves. -/
abbrev outV (c : Dev nD) (k : Slot) := tile (outOff c k) (outOff_inb c k)
abbrev outOwn (c : Dev nD) (h : Fin 2) := tile (ownOff c h) (ownOff_inb c h)

/-! ## The semaphores -/

/-- The semaphore of the local copy out of widened block `t`, and the two of remote transfer `t`. -/
abbrev outS (t : Fin 16) : DmaSem sig := ((cc1_scratch2.slice (Rect.unit (s := S16) ![t.val] S1.size (sem16_inb t))).squeeze S_ squeezes_S1_S_).sem
abbrev sendS (t : Fin 14) : DmaSem sig := ((cc1_scratch3.slice (Rect.unit (s := S14) ![t.val] S1.size (sem14_inb t))).squeeze S_ squeezes_S1_S_).sem
abbrev recvS (t : Fin 14) : DmaSem sig := ((cc1_scratch4.slice (Rect.unit (s := S14) ![t.val] S1.size (sem14_inb t))).squeeze S_ squeezes_S1_S_).sem
abbrev barS : Sem sig := (SemArray.scalar (sig.barrier 0 rfl) : Sems sig S_).sem

/-! ## The devices addressed, as the kernel computes them -/

/-- The device that signal `k` goes to. -/
def sigDev (c : Dev nD) : Fin 7 → Dev nD
  | 0 => ⟨k1_dev1 c, k1_dev1_lt c⟩ | 1 => ⟨k1_dev2 c, k1_dev2_lt c⟩ | 2 => ⟨k1_dev3 c, k1_dev3_lt c⟩
  | 3 => ⟨k1_dev4 c, k1_dev4_lt c⟩ | 4 => ⟨k1_dev5 c, k1_dev5_lt c⟩ | 5 => ⟨k1_dev6 c, k1_dev6_lt c⟩
  | 6 => ⟨k1_dev7 c, k1_dev7_lt c⟩

/-- The device that transfer `k` goes to. -/
def sendDev (c : Dev nD) : Slot → Dev nD
  | (0, 0) => ⟨k1_dev8 c, k1_dev8_lt c⟩ | (0, 1) => ⟨k1_dev9 c, k1_dev9_lt c⟩
  | (1, 0) => ⟨k1_dev10 c, k1_dev10_lt c⟩ | (1, 1) => ⟨k1_dev11 c, k1_dev11_lt c⟩
  | (2, 0) => ⟨k1_dev12 c, k1_dev12_lt c⟩ | (2, 1) => ⟨k1_dev13 c, k1_dev13_lt c⟩
  | (3, 0) => ⟨k1_dev14 c, k1_dev14_lt c⟩ | (3, 1) => ⟨k1_dev15 c, k1_dev15_lt c⟩
  | (4, 0) => ⟨k1_dev16 c, k1_dev16_lt c⟩ | (4, 1) => ⟨k1_dev17 c, k1_dev17_lt c⟩
  | (5, 0) => ⟨k1_dev18 c, k1_dev18_lt c⟩ | (5, 1) => ⟨k1_dev19 c, k1_dev19_lt c⟩
  | (6, 0) => ⟨k1_dev20 c, k1_dev20_lt c⟩ | (6, 1) => ⟨k1_dev21 c, k1_dev21_lt c⟩

/-! ## The values stored -/

/-- A landed block widened, as the staging buffer takes it. -/
def widen (v : Vec F S512x512 .bf16) : FVec F S1x512x512 .f32 :=
  shapeCast S1x512x512 (extf .f32 v bitsLt_bf16_f32) shapeCasts_S512x512_S1x512x512

/-! ## The loops' steps -/

/-- Signal one peer's barrier. -/
def signal (c : Dev nD) (k : Fin 7) : Body F := .op (.semSignal (sigDev c k).tc barS 1) .ret
/-- Wait for all seven peers. -/
def barrier : Body F := .op (.semWait barS 7) .ret
/-- Issue one remote transfer. -/
def send (c : Dev nD) (k : Slot) : Body F :=
  .op (.enqueueDma (yV c k) (.remote (sendDev c k).tc (rcvV k.pos) (.dma (sendS k.pos))) (.dma (recvS k.pos))
    ((Memref.isWhole_whole cc1_stg0_0).wordExact_slice rfl _ (k1_off1_wordsbf16 c k.1 k.2))
    (((Memref.isWhole_whole cc1_scratch0).wordExact_slice rfl _ (rcv_words k.pos)).reshape _ _) ⟨⟨rfl, Or.inl rfl⟩, trivial⟩) .ret
/-- Store a widened block in the staging buffer's slot `t` and start its copy to the result's tile `o`. -/
def place (t : Fin 16) (o : Memref sig .tc .hbm S512x512 .f32) (v : FVec F S1x512x512 .f32) : Body F :=
  .op (.load stgM (stgR t).toLoadRect (View.loadsAt_vmem h_S1x512x512)) fun _ =>
  .op (.store stgM (stgR t) v Finset.univ (View.stores_vmem_bits_univ h_S1x512x512 rfl) (.inl rfl)) fun _ =>
  .op (.enqueueDma (stgV t) (.here o) (.dma (outS t)) ((View.wordExact_bits rfl).reshape _ _) (View.wordExact_bits rfl) ⟨Or.inl rfl, trivial⟩) .ret
/-- Place one half of the device's own column block. -/
def keep (c : Dev nD) (h : Fin 2) : Body F :=
  .op (.load yM (ownR c h).toLoadRect (View.loadsAt_vmem h_S512x512)) fun v =>
  place (own h) (outOwn c h) (widen (shapeCast S512x512 v shapeCasts_S512x512_S512x512))
/-- Wait for one transfer from a peer and place what landed. -/
def take (c : Dev nD) (k : Slot) : Body F :=
  .op (.waitDma2 (recvS k.pos) (yM.slice (Rect.unit (s := S512x8192) ![0, 0] S512x512.size inb_S512x8192_S512x512_0_0) (fun _ => rfl) : Memref sig .tc .vmem S512x512 .bf16) (rcvV k.pos)
    ((Memref.isWhole_whole cc1_stg0_0).wordExact_slice rfl _ wordsbf16_S512x8192_S512x512_0_0)
    (((Memref.isWhole_whole cc1_scratch0).wordExact_slice rfl _ (rcv_words k.pos)).reshape _ _)) fun _ =>
  .op (.load rcvM (rcvR k.pos).toLoadRect (View.loadsAt_vmem h_S1x512x512)) fun v =>
  place k.blk (outV c k) (widen (shapeCast S512x512 v shapeCasts_S1x512x512_S512x512))
/-- Wait for the copy out of one widened block. -/
def outWait (t : Fin 16) (o : Memref sig .tc .hbm S512x512 .f32) : Body F :=
  .op (.waitDma2 (outS t) (stgV t) o ((View.wordExact_bits rfl).reshape _ _) (View.wordExact_bits rfl)) .ret
/-- Wait until one sent piece has been read. -/
def sendWait (c : Dev nD) (k : Slot) : Body F :=
  .op (.waitDma2 (sendS k.pos) (rcvV k.pos) (yV c k)
    (((Memref.isWhole_whole cc1_scratch0).wordExact_slice rfl _ (rcv_words k.pos)).reshape _ _)
    ((Memref.isWhole_whole cc1_stg0_0).wordExact_slice rfl _ (k1_off1_wordsbf16 c k.1 k.2))) .ret

/-- The exchange: signal every peer and wait for them; send; keep the own block; take what lands; wait for every copy. -/
def exchange : Body F :=
  .op .deviceId fun c =>
  each (signal c) peers >>= fun _ =>
  barrier >>= fun _ =>
  each (send c) slots >>= fun _ =>
  each (keep c) halves >>= fun _ =>
  each (take c) slots >>= fun _ =>
  each (fun k : Slot => outWait k.blk (outV c k)) slots >>= fun _ =>
  each (fun h : Fin 2 => outWait (own h) (outOwn c h)) halves >>= fun _ =>
  each (sendWait c) slots

end Cert.KernelIdeal.Exchange

end
-- ==== Proof.Pieces.lean ====
/- The exchange's geometry: which device each transfer goes to, which elements of its buffers each view names. -/
module

public import proofs.«01_k».proof.Proof.Program
public import Idealize.ShloMosaic.Lib.Ring
public import Idealize.ShloMosaic.Lib.Pipeline.Value
public import Idealize.ShloMosaic.Lib.Pipeline.BigSepL

@[expose] public section

noncomputable section

namespace Cert.KernelIdeal.Exchange

open Idealize.ShloMosaic Idealize.ShloMosaic.TcCoe Idealize.SL.Sem Cert.KernelIdeal Cert.KernelIdeal.Gen

variable {F : FTy → Type} [FloatOps F]

/-! ## The ring of eight devices -/

/-- The device `k + 1` places up the ring, and the one `k + 1` places down. -/
def up (c : Dev nD) (k : Fin 7) : Dev nD := ⟨(c.val + k.val + 1) % 8, Nat.mod_lt _ (by decide)⟩
def dn (c : Dev nD) (k : Fin 7) : Dev nD := ⟨(c.val + 7 - k.val) % 8, Nat.mod_lt _ (by decide)⟩

theorem up_dn : ∀ (c : Dev nD) (k : Fin 7), up (dn c k) k = c := by decide +kernel
theorem dn_up : ∀ (c : Dev nD) (k : Fin 7), dn (up c k) k = c := by decide +kernel
/-- Going up by `k + 1` and by `7 - k` more is going round. -/
theorem up_up_rev : ∀ (c : Dev nD) (k : Fin 7), up (up c k) k.rev = c := by decide +kernel

theorem sigDev_eq : ∀ (c : Dev nD) (k : Fin 7), sigDev c k = up c k := by decide +kernel
theorem sendDev_eq : ∀ (c : Dev nD) (k : Slot), sendDev c k = up c k.1 := by decide +kernel

/-! ## Offsets in closed form -/

theorem off1_eq : ∀ (c : Dev nD) (k : Slot),
    k1_off1 c (BitVec.ofNat 32 k.1.val) (BitVec.ofNat 32 (512 * k.2.val)) = ![0, 512 * (2 * (up c k.1).val + k.2.val)] := by decide +kernel
theorem off2_eq : ∀ (c : Dev nD) (h : Fin 2), k1_off2 c (BitVec.ofNat 32 (512 * h.val)) = ![0, 512 * (2 * c.val + h.val)] := by decide +kernel

/-! ## The pieces of each buffer -/

/-- Panel `n` of the product: its columns `512 n` to `512 n + 511`. -/
def ySet (n : Fin 16) : Finset S512x8192.Idx := Finset.univ.filter fun i => (i 1).val / 512 = n.val
/-- Tile `n` of the result: rows of device `n / 2`, column half `n % 2`. -/
def oSet (n : Fin 16) : Finset S4096x1024.Idx := Finset.univ.filter fun i => 2 * ((i 0).val / 512) + (i 1).val / 512 = n.val
/-- Landing slot `t`. -/
def rcvSet (t : Fin 14) : Finset S14x512x512.Idx := Finset.univ.filter fun i => (i 0).val = t.val
/-- Widened block `t`. -/
def stgSet (t : Fin 16) : Finset S16x512x512.Idx := Finset.univ.filter fun i => (i 0).val = t.val

/-- Half `h` of device `p`'s share, among sixteen. -/
def half (p : Dev nD) (h : Fin 2) : Fin 16 := ⟨2 * p.val + h.val, by have := p.isLt; simp only [nD] at this; omega⟩

/-- The panel that transfer `k` of device `c` sends, and the tile that what lands in its slot `k` fills. -/
abbrev yPan (c : Dev nD) (k : Slot) : Fin 16 := half (up c k.1) k.2
abbrev oTile (c : Dev nD) (k : Slot) : Fin 16 := half (dn c k.1) k.2

theorem mem_unit {s : Shape} {off size : Fin s.rank → Nat} {inb} {i : s.Idx} :
    i ∈ (Rect.unit (s := s) off size inb).set ↔ ∀ a, off a ≤ (i a).val ∧ (i a).val < off a + size a := Rect.mem_set_unit

/-- A rectangle of full height, 512 wide, at panel `n`. -/
theorem panel_set {off : Fin 2 → Nat} {inb} (n : Fin 16) (h : off = ![0, 512 * n.val]) :
    (Rect.unit (s := S512x8192) off S512x512.size inb).set = ySet n := by
  subst h
  ext i
  rw [mem_unit, ySet, Finset.mem_filter, Fin.forall_fin_two]
  have h0 : (i 0).val < 512 := (i 0).isLt
  simp only [Matrix.cons_val_zero, Matrix.cons_val_one, Finset.mem_univ, true_and]
  show (0 ≤ (i 0).val ∧ (i 0).val < 0 + 512) ∧ 512 * n.val ≤ (i 1).val ∧ (i 1).val < 512 * n.val + 512 ↔ _
  omega

/-- A 512 by 512 rectangle of the result at tile `half p h`. -/
theorem tile_set {off : Fin 2 → Nat} {inb} (p : Dev nD) (h : Fin 2) (e : off = ![512 * p.val, 512 * h.val]) :
    (Rect.unit (s := S4096x1024) off S512x512.size inb).set = oSet (half p h) := by
  subst e
  ext i
  rw [mem_unit, oSet, Finset.mem_filter, Fin.forall_fin_two]
  have h1 : (i 1).val < 1024 := (i 1).isLt
  have h2 := h.isLt
  simp only [Matrix.cons_val_zero, Matrix.cons_val_one, Finset.mem_univ, true_and, half]
  show (512 * p.val ≤ (i 0).val ∧ (i 0).val < 512 * p.val + 512) ∧ 512 * h.val ≤ (i 1).val ∧ (i 1).val < 512 * h.val + 512 ↔ _
  omega

theorem whole_slice_set {κ : Kind} (b : Ref sig κ) (r : Rect b.ty.shape) : ((View.whole b).slice r).set = r.set := by
  rw [View.set_slice]; exact Finset.map_refl

theorem yV_set (c : Dev nD) (k : Slot) : (yV c k).view.set = ySet (yPan c k) :=
  (whole_slice_set cc1_stg0_0 _).trans (panel_set (yPan c k) (off1_eq c k))
theorem ownR_set (c : Dev nD) (h : Fin 2) : (yM.access (ownR c h)).set = ySet (half c h) :=
  (whole_slice_set cc1_stg0_0 _).trans (panel_set (half c h) (off2_eq c h))
theorem outOff_eq : ∀ (c : Dev nD) (k : Slot), outOff c k = ![512 * (dn c k.1).val, 512 * k.2.val] := by decide +kernel
theorem ownOff_eq : ∀ (c : Dev nD) (h : Fin 2), ownOff c h = ![512 * c.val, 512 * h.val] := by decide +kernel
theorem outV_set (c : Dev nD) (k : Slot) : (outV c k).view.set = oSet (oTile c k) :=
  (whole_slice_set main_v2 _).trans (tile_set (dn c k.1) k.2 (outOff_eq c k))
theorem outOwn_set (c : Dev nD) (h : Fin 2) : (outOwn c h).view.set = oSet (half c h) :=
  (whole_slice_set main_v2 _).trans (tile_set c h (ownOff_eq c h))

/-- A 512 by 512 layer of a stack of such. -/
theorem layer_set {N : Nat} (t : Nat) {inb} : (Rect.unit (s := ⟨3, ![N, 512, 512]⟩) ![t, 0, 0] S1x512x512.size inb).set
    = Finset.univ.filter fun i : Shape.Idx ⟨3, ![N, 512, 512]⟩ => (i 0).val = t := by
  ext i
  rw [mem_unit, Finset.mem_filter, Fin.forall_fin_succ, Fin.forall_fin_two]
  have h1 : (i 1).val < 512 := (i 1).isLt
  have h2 : (i 2).val < 512 := (i 2).isLt
  show (t ≤ (i 0).val ∧ (i 0).val < t + 1) ∧ (0 ≤ (i 1).val ∧ (i 1).val < 0 + 512) ∧ (0 ≤ (i 2).val ∧ (i 2).val < 0 + 512) ↔ _
  simp only [Finset.mem_univ, true_and]
  omega
theorem rcvR_set (t : Fin 14) : (rcvM.access (rcvR t)).set = rcvSet t := (whole_slice_set cc1_scratch0 _).trans (layer_set t.val)
theorem stgR_set (t : Fin 16) : (stgM.access (stgR t)).set = stgSet t := (whole_slice_set cc1_scratch1 _).trans (layer_set t.val)
theorem rcvV_set (t : Fin 14) : (rcvV t).view.set = rcvSet t := (View.set_reshape _ _).trans (rcvR_set t)
theorem stgV_set (t : Fin 16) : (stgV t).view.set = stgSet t := (View.set_reshape _ _).trans (stgR_set t)

/-! ## Fibres are disjoint and cover -/

theorem ySet_disjoint (n m : Fin 16) (h : n ≠ m) : Disjoint (ySet n) (ySet m) :=
  Finset.disjoint_filter.mpr fun _ _ h1 h2 => h (Fin.ext (h1.symm.trans h2))
theorem oSet_disjoint (n m : Fin 16) (h : n ≠ m) : Disjoint (oSet n) (oSet m) :=
  Finset.disjoint_filter.mpr fun _ _ h1 h2 => h (Fin.ext (h1.symm.trans h2))
theorem rcvSet_disjoint (n m : Fin 14) (h : n ≠ m) : Disjoint (rcvSet n) (rcvSet m) :=
  Finset.disjoint_filter.mpr fun _ _ h1 h2 => h (Fin.ext (h1.symm.trans h2))
theorem stgSet_disjoint (n m : Fin 16) (h : n ≠ m) : Disjoint (stgSet n) (stgSet m) :=
  Finset.disjoint_filter.mpr fun _ _ h1 h2 => h (Fin.ext (h1.symm.trans h2))

theorem ySet_cover : Finset.univ.biUnion ySet = Finset.univ :=
  Finset.eq_univ_of_forall fun i => Finset.mem_biUnion.mpr
    ⟨⟨(i 1).val / 512, by have h : (i 1).val < 8192 := (i 1).isLt; omega⟩, Finset.mem_univ _, Finset.mem_filter.mpr ⟨Finset.mem_univ _, rfl⟩⟩
theorem oSet_cover : Finset.univ.biUnion oSet = Finset.univ :=
  Finset.eq_univ_of_forall fun i => Finset.mem_biUnion.mpr
    ⟨⟨2 * ((i 0).val / 512) + (i 1).val / 512, by
      have h : (i 0).val < 4096 := (i 0).isLt
      have h' : (i 1).val < 1024 := (i 1).isLt
      omega⟩, Finset.mem_univ _, Finset.mem_filter.mpr ⟨Finset.mem_univ _, rfl⟩⟩
theorem rcvSet_cover : Finset.univ.biUnion rcvSet = Finset.univ :=
  Finset.eq_univ_of_forall fun i => Finset.mem_biUnion.mpr ⟨i 0, Finset.mem_univ _, Finset.mem_filter.mpr ⟨Finset.mem_univ _, rfl⟩⟩
theorem stgSet_cover : Finset.univ.biUnion stgSet = Finset.univ :=
  Finset.eq_univ_of_forall fun i => Finset.mem_biUnion.mpr ⟨i 0, Finset.mem_univ _, Finset.mem_filter.mpr ⟨Finset.mem_univ _, rfl⟩⟩

/-! ## Listing sixteen pieces by what a device does with them -/

theorem panels_nodup : ∀ c : Dev nD, (slots.map (yPan c) ++ halves.map (half c)).Nodup := by decide +kernel
theorem panels_mem : ∀ (c : Dev nD) (n : Fin 16), n ∈ slots.map (yPan c) ++ halves.map (half c) := by decide +kernel
theorem tiles_nodup : ∀ c : Dev nD, (slots.map (oTile c) ++ halves.map (half c)).Nodup := by decide +kernel
theorem tiles_mem : ∀ (c : Dev nD) (n : Fin 16), n ∈ slots.map (oTile c) ++ halves.map (half c) := by decide +kernel
theorem blks_nodup : (slots.map Slot.blk ++ halves.map own).Nodup := by decide +kernel
theorem blks_mem : ∀ n : Fin 16, n ∈ slots.map Slot.blk ++ halves.map own := by decide +kernel
theorem pos_nodup : (slots.map Slot.pos).Nodup := by decide +kernel
theorem pos_mem : ∀ n : Fin 14, n ∈ slots.map Slot.pos := by decide +kernel
theorem slots_nodup : slots.Nodup := by decide +kernel
theorem slots_mem : ∀ k : Slot, k ∈ slots := by decide +kernel
theorem peers_nodup : peers.Nodup := by decide +kernel
theorem peers_mem : ∀ k : Fin 7, k ∈ peers := by decide +kernel

end Cert.KernelIdeal.Exchange

end
-- ==== Proof.Protocol.lean ====
/- The exchange's protocol: which counter each transfer raises and with what, and in which order the waits stand.

   A device's barrier counter takes a unit from each of the seven others; each unit hands over the landing slots (on the
   device that signals) into which the signalled device is to send. A transfer's two counters hand back the panel that was
   read and hand over the slot that was written; the counter of a copy out hands over the tile of the result it filled. -/
module

public import proofs.«01_k».proof.Proof.Pieces
public import Idealize.ShloMosaic.Lib.Pipeline.Kit
public import Idealize.ShloMosaic.Lib.Rounds
public import Idealize.ShloMosaic.Lib.Tactic

@[expose] public section

noncomputable section

namespace Cert.KernelIdeal.Exchange

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

abbrev UU : Type := UR sig nD τ × URounds (GSem nD τ sig) (Fin 7)
local notation "𝕄" => MT nD τ sig Unit (Elt F) ℕ UU ℕ

abbrev EP : Emb (UR sig nD τ) (MT nD τ sig Unit (Elt F) ℕ UU ℕ) := embL
abbrev ER : Emb (URounds (GSem nD τ sig) (Fin 7)) (MT nD τ sig Unit (Elt F) ℕ UU ℕ) := embR

/-! ## What the pieces hold -/

/-- A product's contents on every device. -/
abbrev Prods (F : FTy → Type) : Type := Dev nD → S512x8192.Idx → Elt F .bf16

/-- One element of a product, widened. -/
def wide (x : Elt F .bf16) : Elt F .f32 := FloatOps.extf .f32 bitsLt_bf16_f32 x

/-- What device `c`'s result holds, from every device's product: row block `p` is device `p`'s rows, in device `c`'s columns. -/
def gathered (Y : Prods F) (c : Dev nD) : S4096x1024.Idx → Elt F .f32 := fun i =>
  wide (Y ⟨(i 0).val / 512, by have h : (i 0).val < 4096 := (i 0).isLt; simp only [nD]; omega⟩
    (Shape.pair (d := ![512, 8192]) ⟨(i 0).val % 512, Nat.mod_lt _ (by decide)⟩
      ⟨1024 * c.val + (i 1).val, by
        have h : (i 1).val < 1024 := (i 1).isLt
        have h' := c.isLt
        simp only [nD] at h'
        show _ < 8192
        omega⟩))

/-- The slot of number `n`. -/
def slotOf (n : ℕ) : Slot := (Fin.ofNat 7 (n / 2), Fin.ofNat 2 n)
theorem slotOf_pos : ∀ k : Slot, slotOf k.pos.val = k := by decide +kernel

/-- The panel, and the tile, that go with widened block `t` of device `c`. -/
def panAt (c : Dev nD) (t : Fin 16) : Fin 16 := if t.val < 14 then yPan c (slotOf t.val) else half c (Fin.ofNat 2 t.val)
def tileAt (c : Dev nD) (t : Fin 16) : Fin 16 := if t.val < 14 then oTile c (slotOf t.val) else half c (Fin.ofNat 2 t.val)
theorem panAt_blk : ∀ (c : Dev nD) (k : Slot), panAt c k.blk = yPan c k := by decide +kernel
theorem panAt_own : ∀ (c : Dev nD) (h : Fin 2), panAt c (own h) = half c h := by decide +kernel
theorem tileAt_blk : ∀ (c : Dev nD) (k : Slot), tileAt c k.blk = oTile c k := by decide +kernel
theorem tileAt_own : ∀ (c : Dev nD) (h : Fin 2), tileAt c (own h) = half c h := by decide +kernel

/-- A buffer of device `c`, on the elements `S`. -/
abbrev on (c : Dev nD) (b : Ref sig .tc) (S : Finset b.ty.Idx) (f : b.ty.Contents (Elt F)) : sProp 𝕄 :=
  ((c : Thread nD τ).loc b) ↦[S]{fullShare} f

/-- Panel `n` of device `c`'s product; tile `n` of its result; its landing slot `t` and its widened block `t` at contents not chosen. -/
abbrev yPts (Y : Prods F) (c : Dev nD) (n : Fin 16) : sProp 𝕄 := on c cc1_stg0_0 (ySet n) (Y c)
abbrev oPts (c : Dev nD) (n : Fin 16) (f : S4096x1024.Idx → Elt F .f32) : sProp 𝕄 := on c main_v2 (oSet n) f
abbrev rcvAny (c : Dev nD) (t : Fin 14) : sProp 𝕄 := iprop(∃ f, on c cc1_scratch0 (rcvSet t) f)
abbrev stgAny (c : Dev nD) (t : Fin 16) : sProp 𝕄 := iprop(∃ f, on c cc1_scratch1 (stgSet t) f)

/-! ## The counters -/

abbrev barCell (c : Dev nD) : GSem nD τ sig := ((c : Thread nD τ), .reg barS)
abbrev outCell (c : Dev nD) (t : Fin 16) : GSem nD τ sig := ((c : Thread nD τ), .dma (outS t))
abbrev sendCell (c : Dev nD) (k : Slot) : GSem nD τ sig := ((c : Thread nD τ), .dma (sendS k.pos))
abbrev recvCell (c : Dev nD) (k : Slot) : GSem nD τ sig := ((c : Thread nD τ), .dma (recvS k.pos))

theorem outS_val : ∀ t : Fin 16, (outS t).val = 8 + t.val := by decide +kernel
theorem sendS_val : ∀ t : Fin 14, (sendS t).val = 24 + t.val := by decide +kernel
theorem recvS_val : ∀ t : Fin 14, (recvS t).val = 38 + t.val := by decide +kernel

/-- What one transfer between devices raises its counters by, and what one copy out raises its counter by. -/
abbrev NB : ℕ := (rcvV 0).view.dmaCredit
abbrev NF : ℕ := (stgV 0).view.dmaCredit
theorem NB_pos : 0 < NB := View.dmaCredit_pos _ (by decide)
theorem NF_pos : 0 < NF := View.dmaCredit_pos _ (by decide)
theorem credit_rcv (t : Fin 14) : (rcvV t).view.dmaCredit = NB := rfl
theorem credit_y (c : Dev nD) (k : Slot) : (yV c k).view.dmaCredit = NB := rfl
theorem credit_out (o : Fin 2 → Nat) (ho) : (tile o ho).view.dmaCredit = NF := rfl

/-! ## What each counter hands over -/

/-- Device `p`'s `d`-th signal: its two landing slots for transfers from the device it signals, and that those slots' counters stand at their start. -/
def gift1 (p : Dev nD) (k : Slot) : sProp 𝕄 := iprop(rcvAny (F := F) p k.pos ∗ reached ER (recvCell p k) 0)
def gift (p : Dev nD) (d : Fin 7) : sProp 𝕄 := iprop(gift1 (F := F) p (d, 0) ∗ gift1 p (d, 1))

variable (Y : Prods F)

/-- The tile that widened block `t` fills, filled, and the block back. -/
def outPay (c : Dev nD) (t : Fin 16) : sProp 𝕄 := iprop(oPts c (tileAt c t) (gathered Y c) ∗ stgAny c t)
/-- The panel sent, back. -/
def sendPay (c : Dev nD) (k : Slot) : sProp 𝕄 := yPts Y c (yPan c k)
/-- The landing slot, holding the sender's panel. -/
def recvPay (c : Dev nD) (k : Slot) : sProp 𝕄 :=
  iprop(∃ f, ⌜(rcvV k.pos).view.read (Elt F) f = (yV (dn c k.1) k).view.read (Elt F) (Y (dn c k.1))⌝ ∗ on c cc1_scratch0 (rcvSet k.pos) f)

/-- What DMA counter number `s` of device `c` hands over. -/
def dmaPay (c : Dev nD) (s : ℕ) : sProp 𝕄 :=
  if s < 8 then iprop(emp) else if s < 24 then outPay Y c (Fin.ofNat 16 (s - 8))
    else if s < 38 then sendPay Y c (slotOf (s - 24)) else recvPay Y c (slotOf (s - 38))

/-- One round: seven units on each barrier counter, one transfer on each of the exchange's own DMA counters. -/
def sched : Rounds.Schedule (GSem nD τ sig) (Fin 7) 𝕄 where
  duties g r := if r = 0 then (match g.2 with | .reg _ => Finset.univ | .dma s => if s.val < 8 then ∅ else {0}) else ∅
  unitless _ := False
  amount g _ _ := match g.2 with | .reg _ => 1 | .dma s => if s.val < 24 then NF else NB
  payload g _ d := match g.2 with | .reg _ => gift (up g.1.1 d) d | .dma s => dmaPay Y g.1.1 s.val
  amount_pos g _ _ _ := by
    rcases g with ⟨g, s | s⟩
    · exact Nat.one_pos
    · show 0 < if s.val < 24 then NF else NB
      split
      · exact NF_pos
      · exact NB_pos

instance gift_storable (p : Dev nD) (d : Fin 7) : BI.Storable (upEmb : UEmb _ 𝕄) (gift (F := F) p d) := by
  unfold gift gift1; infer_instance
instance dmaPay_storable (c : Dev nD) (s : ℕ) : BI.Storable (upEmb : UEmb _ 𝕄) (dmaPay Y c s) := by
  unfold dmaPay outPay sendPay recvPay; (repeat' split) <;> infer_instance
instance sched_storable (g : GSem nD τ sig) (r : ℕ) (d : Fin 7) : BI.Storable (upEmb : UEmb _ 𝕄) ((sched Y).payload g r d) := by
  rcases g with ⟨g, s | s⟩
  · exact gift_storable _ _
  · exact dmaPay_storable Y _ _

/-! ### The schedule at each counter -/

section Sched

variable (c : Dev nD)

theorem duties_bar : (sched Y).duties (barCell c) 0 = Finset.univ := rfl
theorem duties_dma (s : DmaSem sig) (h : ¬ s.val < 8) : (sched Y).duties ((c : Thread nD τ), .dma s) 0 = {0} := by
  dsimp only [sched]; rw [if_pos rfl, if_neg h]
theorem duties_later (g : GSem nD τ sig) : ∀ r, 1 ≤ r → (sched Y).duties g r = ∅ :=
  fun r hr => by dsimp only [sched]; rw [if_neg (by omega)]
theorem duties_out (t : Fin 16) : (sched Y).duties (outCell c t) 0 = {0} := duties_dma Y c _ (by rw [outS_val]; omega)
theorem duties_send (k : Slot) : (sched Y).duties (sendCell c k) 0 = {0} := duties_dma Y c _ (by rw [sendS_val]; omega)
theorem duties_recv (k : Slot) : (sched Y).duties (recvCell c k) 0 = {0} := duties_dma Y c _ (by rw [recvS_val]; omega)

theorem amount_bar (d : Fin 7) : (sched Y).amount (barCell c) 0 d = 1 := rfl
theorem amount_out (t : Fin 16) (d : Fin 7) : (sched Y).amount (outCell c t) 0 d = NF := by
  dsimp only [sched]; exact if_pos (by rw [outS_val]; omega)
theorem amount_send (k : Slot) (d : Fin 7) : (sched Y).amount (sendCell c k) 0 d = NB := by
  dsimp only [sched]; exact if_neg (by rw [sendS_val]; omega)
theorem amount_recv (k : Slot) (d : Fin 7) : (sched Y).amount (recvCell c k) 0 d = NB := by
  dsimp only [sched]; exact if_neg (by rw [recvS_val]; omega)

theorem expect_bar : (sched Y).expect (barCell c) 0 = 7 := by
  unfold Schedule.expect Schedule.amountOf; rw [duties_bar]; rfl
theorem expect_out (t : Fin 16) : (sched Y).expect (outCell c t) 0 = NF := by
  unfold Schedule.expect Schedule.amountOf; rw [duties_out, Finset.sum_singleton, amount_out]
theorem expect_send (k : Slot) : (sched Y).expect (sendCell c k) 0 = NB := by
  unfold Schedule.expect Schedule.amountOf; rw [duties_send, Finset.sum_singleton, amount_send]
theorem expect_recv (k : Slot) : (sched Y).expect (recvCell c k) 0 = NB := by
  unfold Schedule.expect Schedule.amountOf; rw [duties_recv, Finset.sum_singleton, amount_recv]

theorem payload_bar (d : Fin 7) : (sched Y).payload (barCell c) 0 d = gift (up c d) d := rfl
theorem payload_out (t : Fin 16) (d : Fin 7) : (sched Y).payload (outCell c t) 0 d = outPay Y c t := by
  show dmaPay Y c (outS t).val = _
  unfold dmaPay
  rw [outS_val, if_neg (by omega), if_pos (by omega), show Fin.ofNat 16 (8 + t.val - 8) = t from Fin.ext (by simp only [Fin.ofNat]; omega)]
theorem payload_send (k : Slot) (d : Fin 7) : (sched Y).payload (sendCell c k) 0 d = sendPay Y c k := by
  show dmaPay Y c (sendS k.pos).val = _
  unfold dmaPay
  rw [sendS_val, if_neg (by omega), if_neg (by omega), if_pos (by omega), Nat.add_sub_cancel_left, slotOf_pos]
theorem payload_recv (k : Slot) (d : Fin 7) : (sched Y).payload (recvCell c k) 0 d = recvPay Y c k := by
  show dmaPay Y c (recvS k.pos).val = _
  unfold dmaPay
  rw [recvS_val, if_neg (by omega), if_neg (by omega), if_neg (by omega), Nat.add_sub_cancel_left, slotOf_pos]

theorem rest_bar : bigSep ((sched Y).duties (barCell c) 0 \ ∅) (fun d => (sched Y).payload (barCell c) 0 d)
    = bigSepL peers fun d => gift (up c d) d := by
  rw [Finset.sdiff_empty, duties_bar]
  exact bigSep_univ_eq_bigSepL peers (by decide) (by decide) _
theorem rest_out (t : Fin 16) : bigSep ((sched Y).duties (outCell c t) 0 \ ∅) (fun d => (sched Y).payload (outCell c t) 0 d) = outPay Y c t := by
  rw [Finset.sdiff_empty, duties_out, bigSep_singleton, payload_out]
theorem rest_send (k : Slot) : bigSep ((sched Y).duties (sendCell c k) 0 \ ∅) (fun d => (sched Y).payload (sendCell c k) 0 d) = sendPay Y c k := by
  rw [Finset.sdiff_empty, duties_send, bigSep_singleton, payload_send]
theorem rest_recv (k : Slot) : bigSep ((sched Y).duties (recvCell c k) 0 \ ∅) (fun d => (sched Y).payload (recvCell c k) 0 d) = recvPay Y c k := by
  rw [Finset.sdiff_empty, duties_recv, bigSep_singleton, payload_recv]

end Sched

/-! ## What each device owes, and the order of the waits -/

/-- The unit owed to the peer `k + 1` places up; the landing owed to its slot. -/
abbrev sigTally (c : Dev nD) (k : Fin 7) : CellTallies nD τ sig Unit := tallyAt (barCell (up c k)) () 1
abbrev sendTally (c : Dev nD) (k : Slot) : CellTallies nD τ sig Unit := tallyAt (recvCell (up c k.1) k) () NB
def sendsOwed (c : Dev nD) (l : List Slot) : CellTallies nD τ sig Unit := (l.map (sendTally c)).sum
def signalsOwed (c : Dev nD) (l : List (Fin 7)) : CellTallies nD τ sig Unit := (l.map (sigTally c)).sum + sendsOwed c slots
/-- All that device `c` owes at launch. -/
def O₀ (c : Dev nD) : CellTallies nD τ sig Unit := signalsOwed c peers

def L (g : GSem nD τ sig) : Finset Unit := if g.1.2 = .tc then {()} else ∅
/-- The barrier stands below the landings, the rest below the barrier. -/
def lv (g : GSem nD τ sig) (_ : Unit) : ℕ := match g.2 with | .reg _ => 1 | .dma s => if s.val < 38 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Slot) : lv (recvCell c k) () = 2 := by
  show (if (recvS k.pos).val < 38 then 0 else 2) = 2
  rw [recvS_val, if_neg (by omega)]

/-- A list of tallies is positive somewhere only where one of them is. -/
theorem sum_pos {α : Type} (f : α → CellTallies nD τ sig Unit) (l : List α) (g : GSem nD τ sig) (u : Unit) (h : 0 < (l.map f).sum g u) :
    ∃ a ∈ l, 0 < f a g u := by
  induction l with
  | nil => exact absurd h (Nat.lt_irrefl 0)
  | cons a l ih =>
    rw [List.map_cons, List.sum_cons] at h
    rcases Nat.eq_zero_or_pos (f a g u) with h0 | h0
    · have h1 : 0 < (l.map f).sum g u := by
        have h' : 0 < f a g u + (l.map f).sum g u := h
        omega
      obtain ⟨b, hb, hp⟩ := ih h1
      exact ⟨b, List.mem_cons_of_mem _ hb, hp⟩
    · exact ⟨a, List.mem_cons_self, h0⟩

theorem tally_pos {g g' : GSem nD τ sig} {N : ℕ} {u : Unit} (h : 0 < tallyAt g () N g' u) : g' = g := by
  rw [tallyAt_apply] at h
  by_contra hne
  rw [if_neg fun e => hne e.1] at h
  exact Nat.lt_irrefl 0 h

theorem sends_pos {c : Dev nD} {l : List Slot} {g : GSem nD τ sig} {u : Unit} (h : 0 < sendsOwed c l g u) : ∃ k : Slot, g = recvCell (up c k.1) k := by
  obtain ⟨k, _, hk⟩ := sum_pos _ l g u h
  exact ⟨k, tally_pos hk⟩

/-- Every landing owed stands above the barrier. -/
theorem mayWait_bar (c : Dev nD) : (levAts L lv : sProp 𝕄) ⊢ MayWait (c : Thread nD τ) (.reg barS) () (sendsOwed c slots) :=
  MayOwe.of_cut (L := L) (lev := lv) 1 (fun p hp => by rw [Finset.mem_singleton.mp hp, L_tc]; exact Finset.mem_singleton_self _)
    (fun g u hg => by obtain ⟨k, rfl⟩ := sends_pos hg; rw [L_tc]; exact Finset.mem_singleton_self _)
    (fun p hp => by rw [Finset.mem_singleton.mp hp]; exact Nat.le_refl 1)
    (fun g u hg => by obtain ⟨k, rfl⟩ := sends_pos hg; rw [lv_recv]; decide)

/-! ## All the counters, and what every device may consult -/

/-- The exchange's own DMA counters: sixteen copies out, fourteen transfers sent, fourteen received. -/
abbrev osem1 : Fin 44 → SemLoc sig := fun k => .dma (⟨8 + k.val, by omega⟩ : Fin 52)
theorem osem1_inj : Function.Injective osem1 := fun a b h => Fin.ext (by
  have h' := congrArg (fun s : SemLoc sig => match s with | .dma s => s.val | .reg _ => 0) h
  exact Nat.add_left_cancel h')
theorem osem1_ne_bar (k : Fin 44) : osem1 k ≠ .reg barS := fun h => by cases h

/-- The place of each transfer's counters among them. -/
def outNo (t : Fin 16) : Fin 44 := ⟨t.val, by omega⟩
def sendNo (k : Slot) : Fin 44 := ⟨16 + k.pos.val, by omega⟩
def recvNo (k : Slot) : Fin 44 := ⟨30 + k.pos.val, by omega⟩
theorem osem1_out : ∀ t : Fin 16, osem1 (outNo t) = .dma (outS t) := by decide +kernel
theorem osem1_send : ∀ k : Slot, osem1 (sendNo k) = .dma (sendS k.pos) := by decide +kernel
theorem osem1_recv : ∀ k : Slot, osem1 (recvNo k) = .dma (recvS k.pos) := by decide +kernel

abbrev ownCell (c : Dev nD) (k : Fin 44) : GSem nD τ sig := ((c : Thread nD τ), osem1 k)
theorem outCell_eq (c : Dev nD) (t : Fin 16) : outCell c t = ownCell c (outNo t) := by unfold outCell ownCell; rw [osem1_out]
theorem sendCell_eq (c : Dev nD) (k : Slot) : sendCell c k = ownCell c (sendNo k) := by unfold sendCell ownCell; rw [osem1_send]
theorem recvCell_eq (c : Dev nD) (k : Slot) : recvCell c k = ownCell c (recvNo k) := by unfold recvCell ownCell; rw [osem1_recv]

/-- The own counters in the order the exchange uses them. -/
abbrev ownList : List (Fin 44) := (slots.map fun k => outNo k.blk) ++ ((halves.map fun h => outNo (own h)) ++ (slots.map sendNo ++ slots.map recvNo))
theorem ownList_all : (Finset.univ : Finset (Fin 44)) = ownList.toFinset := by decide +kernel
theorem ownList_nodup : ownList.Nodup := by decide +kernel

/-- Something on each own counter, listed by use. -/
theorem own_split (Φ : Fin 44 → sProp 𝕄) : bigSep Finset.univ Φ
    = iprop(bigSepL slots (fun k => Φ (outNo k.blk)) ∗ bigSepL halves (fun h => Φ (outNo (own h)))
      ∗ bigSepL slots (fun k => Φ (sendNo k)) ∗ bigSepL slots (fun k => Φ (recvNo k))) := by
  rw [bigSep_univ_eq_bigSepL ownList ownList_all ownList_nodup, bigSepL_append, bigSepL_append, bigSepL_append, bigSepL_map, bigSepL_map,
    bigSepL_map, bigSepL_map]

def barEmb : Dev nD ↪ GSem nD τ sig := ⟨fun c => barCell c, fun _ _ h => congrArg (fun g : GSem nD τ sig => g.1.1) h⟩
def ownEmb : Dev nD × Fin 44 ↪ GSem nD τ sig :=
  ⟨fun ck => ownCell ck.1 ck.2, fun _ _ h =>
    Prod.ext (congrArg (fun g : GSem nD τ sig => g.1.1) h) (osem1_inj (congrArg Prod.snd h))⟩
abbrev barCells : Finset (GSem nD τ sig) := Finset.univ.map barEmb
abbrev ownCells : Finset (GSem nD τ sig) := Finset.univ.map ownEmb

theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem1_ne_bar ck.2 (congrArg Prod.snd h)

theorem bar_mem (c : Dev nD) : barCell c ∈ (barCells ∪ ownCells : Finset (GSem nD τ sig)) :=
  Finset.mem_union_left _ (Finset.mem_map_of_mem barEmb (Finset.mem_univ c))
theorem own_mem (c : Dev nD) (k : Fin 44) : ownCell c k ∈ (barCells ∪ ownCells : Finset (GSem nD τ sig)) :=
  Finset.mem_union_right _ (Finset.mem_map_of_mem ownEmb (Finset.mem_univ (c, k)))

/-- The records every device may consult: all the invariants under one map of names; that every barrier counter stands at its start. -/
def records (κ : GSem nD τ sig → ℕ) : sProp 𝕄 :=
  iprop((bigSep (barCells ∪ ownCells) fun g => cellInv ER (sched Y) (κ g) g) ∗ bigSep barCells fun g => reached ER g 0)
instance records_persistent (κ : GSem nD τ sig → ℕ) : BI.Persistent (records Y κ) := by unfold records; infer_instance

/-- With that the own counters have been opened, and the order of the waits. -/
def ctx (κ : GSem nD τ sig → ℕ) (c : Dev nD) : sProp 𝕄 :=
  iprop(records Y κ ∗ (bigSep Finset.univ fun k : Fin 44 => reached ER (ownCell c k) 0) ∗ levAts L lv)
instance ctx_persistent (κ : GSem nD τ sig → ℕ) (c : Dev nD) : BI.Persistent (ctx Y κ c) := by unfold ctx; infer_instance

variable (κ : GSem nD τ sig → ℕ) (c : Dev nD)

theorem records_bar (d : Dev nD) : records Y κ ⊢ cellInv ER (sched Y) (κ (barCell d)) (barCell d) :=
  sep_elim_left.trans (bigSep_elim (bar_mem d))
theorem records_own (d : Dev nD) (k : Fin 44) : records Y κ ⊢ cellInv ER (sched Y) (κ (ownCell d k)) (ownCell d k) :=
  sep_elim_left.trans (bigSep_elim (own_mem d k))
theorem records_reached (d : Dev nD) : records Y κ ⊢ reached ER (barCell d) 0 :=
  sep_elim_right.trans (bigSep_elim (Finset.mem_map_of_mem barEmb (Finset.mem_univ d)))
theorem ctx_bar (d : Dev nD) : ctx Y κ c ⊢ cellInv ER (sched Y) (κ (barCell d)) (barCell d) := sep_elim_left.trans (records_bar Y κ d)
theorem ctx_out (t : Fin 16) : ctx Y κ c ⊢ cellInv ER (sched Y) (κ (outCell c t)) (outCell c t) := by
  rw [outCell_eq]; exact sep_elim_left.trans (records_own Y κ c _)
theorem ctx_send (k : Slot) : ctx Y κ c ⊢ cellInv ER (sched Y) (κ (sendCell c k)) (sendCell c k) := by
  rw [sendCell_eq]; exact sep_elim_left.trans (records_own Y κ c _)
theorem ctx_recv (d : Dev nD) (k : Slot) : ctx Y κ c ⊢ cellInv ER (sched Y) (κ (recvCell d k)) (recvCell d k) := by
  rw [recvCell_eq]; exact sep_elim_left.trans (records_own Y κ d _)
theorem ctx_reached_bar (d : Dev nD) : ctx Y κ c ⊢ reached ER (barCell d) 0 := sep_elim_left.trans (records_reached Y κ d)
theorem ctx_reached_own (k : Fin 44) : ctx Y κ c ⊢ reached ER (ownCell c k) 0 :=
  sep_elim_right.trans (sep_elim_left.trans (bigSep_elim (Finset.mem_univ k)))
theorem ctx_reached_out (t : Fin 16) : ctx Y κ c ⊢ reached ER (outCell c t) 0 := by rw [outCell_eq]; exact ctx_reached_own Y κ c _
theorem ctx_reached_send (k : Slot) : ctx Y κ c ⊢ reached ER (sendCell c k) 0 := by rw [sendCell_eq]; exact ctx_reached_own Y κ c _
theorem ctx_reached_recv (k : Slot) : ctx Y κ c ⊢ reached ER (recvCell c k) 0 := by rw [recvCell_eq]; exact ctx_reached_own Y κ c _
theorem ctx_lev : ctx Y κ c ⊢ levAts L lv := sep_elim_right.trans sep_elim_right

end Cert.KernelIdeal.Exchange

end
-- ==== Proof.Steps.lean ====
/- What each step of the exchange needs and gives, and how a loop of them runs. -/
module

public import proofs.«01_k».proof.Proof.Protocol
public import Idealize.ShloMosaic.Lib.ValueLayout
public import Idealize.ShloMosaic.Lib.Writes

@[expose] public section

noncomputable section

namespace Cert.KernelIdeal.Exchange

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- The exchange's programs, run on device `c` to a postcondition. -/
abbrev run (c : Dev nD) (p : Body F) (Q : PUnit → sProp 𝕄) : sProp 𝕄 :=
  wp frame (wpE (defs₀ (F := F)) 𝒱₀ (c : Thread nD τ) none) Set.univ p Q

/-! ## Loops -/

/-- A loop whose every step takes `P a` to `Q a` and moves what the loop carries along by one. -/
theorem run_each {α : Type} (c : Dev nD) (f : α → Body F) (P Q : α → sProp 𝕄) (J : List α → sProp 𝕄)
    (h : ∀ a l, iprop(P a ∗ J (a :: l)) ⊢ run c (f a) fun _ => iprop(Q a ∗ J l)) (l : List α) :
    iprop(bigSepL l P ∗ J l) ⊢ run c (each f l) fun _ => iprop(bigSepL l Q ∗ J []) := by
  induction l with
  | nil =>
    rw [each, run, wp_ret]
    iintro H; imodintro; iexact H
  | cons a l ih =>
    rw [bigSepL_cons', bigSepL_cons', each, run, wp_bind]
    have h1 : iprop(bigSepL l P ∗ run c (f a) fun _ => iprop(Q a ∗ J l))
        ⊢ run c (f a) fun _ => iprop(bigSepL l P ∗ (Q a ∗ J l)) := wp_frame_l _ _ _
    refine BIBase.Entails.trans ?_ (h1.trans (wp_mono _ _ _ fun _ => ?_))
    · iintro ⟨⟨Ha, Hl⟩, HJ⟩
      isplitl [Hl]; · iexact Hl
      iapply (h a l); isplitl [Ha] <;> iassumption
    · have h2 : iprop(Q a ∗ run c (each f l) fun _ => iprop(bigSepL l Q ∗ J []))
          ⊢ run c (each f l) fun _ => iprop(Q a ∗ (bigSepL l Q ∗ J [])) := wp_frame_l _ _ _
      refine BIBase.Entails.trans ?_ (h2.trans (wp_mono _ _ _ fun _ => ?_))
      · iintro ⟨Hl, Ha, HJ⟩
        isplitl [Ha]; · iexact Ha
        iapply ih; isplitl [Hl] <;> iassumption
      · iintro ⟨Ha, Hl, HJ⟩
        isplitr [HJ]; · isplitl [Ha] <;> iassumption
        iexact HJ

variable (Y : Prods F) (κ : GSem nD τ sig → ℕ) (c : Dev nD)

/-- What a loop carries: the records, and what is still owed. -/
def carry (O : CellTallies nD τ sig Unit) : sProp 𝕄 := iprop(ctx Y κ c ∗ ∃ W, owes (c : Thread nD τ) O W)

theorem sendsOwed_cons (k : Slot) (l : List Slot) : sendsOwed c (k :: l) = sendsOwed c l + sendTally c k := by
  unfold sendsOwed; rw [List.map_cons, List.sum_cons, add_comm]
theorem signalsOwed_cons (k : Fin 7) (l : List (Fin 7)) : signalsOwed c (k :: l) = signalsOwed c l + sigTally c k := by
  unfold signalsOwed; rw [List.map_cons, List.sum_cons, add_assoc, add_comm]

/-! ## Signals -/

/-- A device's `k`-th signal hands its two landing slots for that peer to the peer. -/
theorem signal_step (k : Fin 7) (l : List (Fin 7)) :
    iprop((dutyTok ER (barCell (up c k)) 0 k.rev ∗ gift (F := F) c k.rev) ∗ carry Y κ c (signalsOwed c (k :: l)))
      ⊢ run c (signal c k) fun _ => iprop(emp ∗ carry Y κ c (signalsOwed c l)) := by
  unfold carry signal
  rw [sigDev_eq]
  iintro ⟨⟨Ht, Hg⟩, #Hc, %W, HO⟩
  iapply (Rounds.wp_signal 𝒱₀ ER (sched Y) (c : Thread nD τ) none (dst := (up c k : Thread nD τ)) (sem := barS) (r := 0) (d := k.rev)
      (κ := κ (barCell (up c k))) (by rw [duties_bar]; exact Finset.mem_univ _) (amount_bar Y (up c k) _) () (signalsOwed c l)
      (signalsOwed_cons c k l) (W := W)) $$ [HO Ht Hg]
  · isplitr; · iapply (ctx_bar Y κ c (up c k)); iexact Hc
    isplitl [HO]; · iexact HO
    isplitl [Ht]; · iexact Ht
    isplitl [Hg]; · rw [payload_bar, up_up_rev]; iexact Hg
    iapply (ctx_reached_bar Y κ c (up c k)); iexact Hc
  iintro HO
  rw [wp_ret]; imodintro
  isplitr; · iempintro
  isplitr; · iexact Hc
  iexists W; iexact HO

/-- The wait for the seven peers: their landing slots come in. -/
theorem barrier_step :
    iprop((cred (tallyAt (barCell c) () 7) ∗ atPos ER (barCell c) 0 ∅ 0) ∗ carry Y κ c (sendsOwed c slots))
      ⊢ run c barrier fun _ => iprop((atPos ER (barCell c) (0 + 1) ∅ 0 ∗ bigSepL peers fun d => gift (F := F) (up c d) d) ∗ carry Y κ c (sendsOwed c slots)) := by
  unfold carry barrier
  iintro ⟨⟨Hcr, Hat⟩, #Hc, %W, HO⟩
  iapply (Rounds.wp_wait_rest_token 𝒱₀ ER (sched Y) (c : Thread nD τ) none (κ := κ (barCell c))
      (wpE_semWait_eq 𝒱₀ (c : Thread nD τ) none Set.univ) (Set.mem_univ _) () (O := sendsOwed c slots) (W := W) (R := 0) (m := 0) (T := ∅)
      ((Nat.zero_add 7).trans (expect_bar Y c).symm)) $$ [Hcr HO Hat]
  · isplitr; · iapply (ctx_bar Y κ c c); iexact Hc
    isplitl [Hcr]; · iexact Hcr
    isplitl [HO]; · iexact HO
    isplitr; · iapply (mayWait_bar c); iapply (ctx_lev Y κ c); iexact Hc
    iexact Hat
  iintro ⟨HO, Hat, -, Hpay⟩
  ihave Hp := (Entails.of_eq (rest_bar Y c)) $$ Hpay
  rw [wp_ret]; imodintro
  isplitl [Hat Hp]; · isplitl [Hat] <;> iassumption
  isplitr; · iexact Hc
  iexists _; iexact HO

/-! ## Transfers sent -/

/-- A view's elements of a buffer, by the set it is known to cover. -/
theorem pts_view (b : Ref sig .tc) {S S' : Finset b.ty.Idx} (h : S = S') (f : b.ty.Contents (Elt F)) :
    (on c b S f : sProp 𝕄) = on c b S' f := by rw [h]

/-- What a transfer leaves in the landing slot reads as the panel sent. -/
theorem sent_read (k : Slot) (t : Fin 14) (fd : S14x512x512.Idx → Elt F .bf16) (v : S512x512.Idx → Elt F .bf16) :
    (rcvV t).view.read (Elt F) ((rcvV t).view.write (Elt F) fd v Finset.univ) = v := View.read_write_univ _ _

/-- A transfer issued to device `d`. -/
def sendTo (k : Slot) (d : Dev nD) : Body F :=
  .op (.enqueueDma (yV c k) (.remote d.tc (rcvV k.pos) (.dma (sendS k.pos))) (.dma (recvS k.pos))
    ((Memref.isWhole_whole cc1_stg0_0).wordExact_slice rfl _ (k1_off1_wordsbf16 c k.1 k.2))
    (((Memref.isWhole_whole cc1_scratch0).wordExact_slice rfl _ (rcv_words k.pos)).reshape _ _) ⟨⟨rfl, Or.inl rfl⟩, trivial⟩) .ret
theorem send_eq (k : Slot) : send (F := F) c k = sendTo c k (up c k.1) := by rw [← sendDev_eq]; rfl

/-- A transfer hands the panel to its two counters: back to the device when it has been read, over to the peer when it has landed. -/
theorem send_step (k : Slot) (l : List Slot) :
    iprop((dutyTok ER (sendCell c k) 0 0 ∗ dutyTok ER (recvCell (up c k.1) k) 0 0 ∗ yPts Y c (yPan c k) ∗ gift1 (F := F) (up c k.1) k)
        ∗ carry Y κ c (sendsOwed c (k :: l)))
      ⊢ run c (send c k) fun _ => iprop(cred (tallyAt (sendCell c k) () NB) ∗ carry Y κ c (sendsOwed c l)) := by
  rw [send_eq]
  unfold carry sendTo gift1
  iintro ⟨⟨HtS, HtR, Hy, ⟨%fd, Hr⟩, #HrR⟩, #Hc, %W, HO⟩
  iapply (Rounds.wp_send_pointsTo 𝒱₀ ER (sched Y) (c : Thread nD τ) none (c' := (up c k.1 : Thread nD τ)) (src := yV c k) (dst := rcvV k.pos)
      (sS := .dma (sendS k.pos)) (sem := .dma (recvS k.pos)) (q := fullShare) (fs := Y c) (fd := fd)
      (κ₁ := κ (sendCell c k)) (κ₂ := κ (recvCell (up c k.1) k)) (r₁ := 0) (r₂ := 0) (d₁ := 0) (d₂ := 0)
      (by rw [duties_send]; exact Finset.mem_singleton_self _) (by rw [duties_recv]; exact Finset.mem_singleton_self _)
      () () NB (credit_rcv k.pos) (amount_send Y c k 0) (amount_recv Y (up c k.1) k 0) (sendsOwed c l)
      (sendsOwed_cons c k l) (W := W)
      (by rw [payload_send, yV_set]; exact BI.Entails.refl _)
      (by
        rw [payload_recv, rcvV_set]; unfold recvPay; rw [dn_up]
        iintro H; iexists _
        isplitr; · ipureintro; exact sent_read k k.pos fd _
        iexact H)) $$ [HtS HtR Hy Hr HO]
  · isplitr; · iapply (ctx_send Y κ c k); iexact Hc
    isplitr; · iapply (ctx_recv Y κ c (up c k.1) k); iexact Hc
    isplitl [Hy]; · rw [yV_set]; iexact Hy
    isplitl [Hr]; · rw [rcvV_set]; iexact Hr
    isplitl [HO]; · iexact HO
    isplitl [HtS]; · iexact HtS
    isplitr; · iapply (ctx_reached_send Y κ c k); iexact Hc
    isplitl [HtR]; · iexact HtR
    iexact HrR
  iintro ⟨Hcr, HO⟩
  rw [wp_ret]; imodintro
  isplitl [Hcr]; · iexact Hcr
  isplitr; · iexact Hc
  iexists W; iexact HO

/-! ## Copies out -/

/-- What is stored in widened block `t` is what the copy out of it reads. -/
theorem staged_read (t : Fin 16) (f : S16x512x512.Idx → Elt F .f32) (v : Vec F S512x512 .bf16) :
    (stgV t).view.read (Elt F) ((stgM.access (stgR t)).write (Elt F) f (widen v) Finset.univ) = fun j => wide (v j) := by
  have h : (stgV t).view.read (Elt F) ((stgM.access (stgR t)).write (Elt F) f (widen v) Finset.univ)
      = shapeCast S512x512 ((stgM.access (stgR t)).read (Elt F) ((stgM.access (stgR t)).write (Elt F) f (widen v) Finset.univ))
          shapeCasts_S1x512x512_S512x512 := rfl
  rw [h, View.read_write_univ]
  unfold widen
  exact (shapeCast_shapeCast (extf .f32 v bitsLt_bf16_f32) _ _).trans rfl

/-- The result's tile `n` after a copy into it of what it is to hold. -/
theorem tile_written (n : Fin 16) (o : Fin 2 → Nat) (ho) (hset : (tile o ho).view.set = oSet n)
    (G fd : S4096x1024.Idx → Elt F .f32) (v : S512x512.Idx → Elt F .f32) (hv : ∀ j, G ((tile o ho).view.emb j) = v j) :
    ∀ i ∈ oSet n, (tile o ho).view.write (Elt F) fd v Finset.univ i = G i := by
  intro i hi
  rw [← hset] at hi
  obtain ⟨j, -, rfl⟩ := Finset.mem_map.mp hi
  rw [View.write_emb_of_mem _ _ (Finset.mem_univ j)]
  exact (hv j).symm

/-- What a copy out of widened block `t` needs: its counter's token, the block, the tile of the result. -/
def spot (t : Fin 16) : sProp 𝕄 :=
  iprop(dutyTok ER (outCell c t) 0 0 ∗ stgAny (F := F) c t ∗ ∃ f, oPts (F := F) c (tileAt c t) f)

/-- A block goes through the widened block `t` to the result's tile that belongs to it. -/
theorem place_step (t : Fin 16) (o : Fin 2 → Nat) (ho) (v : Vec F S512x512 .bf16)
    (hset : (tile o ho).view.set = oSet (tileAt c t)) (hv : ∀ j, gathered Y c ((tile o ho).view.emb j) = wide (v j))
    (K : PUnit → sProp 𝕄) :
    iprop(ctx Y κ c ∗ spot (F := F) c t ∗ (cred (tallyAt (outCell c t) () NF) -∗ K ⟨⟩))
      ⊢ run c (place t (tile o ho) (widen v)) K := by
  unfold place spot
  iintro ⟨#Hc, ⟨Ht, ⟨%fs, Hs⟩, ⟨%fd, Ho⟩⟩, HK⟩
  iapply (wp_load_rect 𝒱₀ (c : Thread nD τ) none Set.univ (m := stgM) (r := stgR t) (S := stgSet t) (q := fullShare) (f := fs)
    (by rw [stgR_set])) $$ Hs
  iintro Hs
  iapply (wp_store 𝒱₀ (c : Thread nD τ) none Set.univ (m := stgM) (r := stgR t) (S := stgSet t) (f := fs)
    (by rw [View.setOn_univ, stgR_set])) $$ Hs
  iintro Hs
  iapply (Rounds.wp_copy_pointsTo 𝒱₀ ER (sched Y) (c : Thread nD τ) none (src := stgV t) (dst := tile o ho) (sem := .dma (outS t)) (q := fullShare)
      (fs := (stgM.access (stgR t)).write (Elt F) fs (widen v) Finset.univ) (fd := fd) (r := 0) (d := 0) (κ := κ (outCell c t))
      (by rw [duties_out]; exact Finset.mem_singleton_self _) () NF (credit_out o ho) (amount_out Y c t 0)
      (by
        rw [payload_out, staged_read, hset, stgV_set]; unfold outPay
        iintro ⟨Ho, Hs⟩
        isplitl [Ho]
        · iapply (Entails.of_eq (pointsTo_congr (tile_written (tileAt c t) o ho hset (gathered Y c) fd _ hv))); iexact Ho
        · iexists _; iexact Hs)) $$ [Hs Ho Ht]
  · isplitr; · iapply (ctx_out Y κ c t); iexact Hc
    isplitl [Hs]; · rw [stgV_set]; iexact Hs
    isplitl [Ho]; · rw [hset]; iexact Ho
    isplitl [Ht]; · iexact Ht
    iapply (ctx_reached_out Y κ c t); iexact Hc
  iintro Hcr
  rw [wp_ret]; imodintro
  iapply HK; iexact Hcr

/-! ## What the tiles are to hold -/

/-- Tile `half p h` of the result holds device `p`'s panel `half c h`, widened. -/
theorem gathered_tile (p : Dev nD) (h : Fin 2) {o : Fin 2 → Nat} (ho) (eo : o = ![512 * p.val, 512 * h.val])
    {q : Fin 2 → Nat} (hq : ∀ a, q a + S512x512.size a ≤ S512x8192.size a) (eq : q = ![0, 512 * (2 * c.val + h.val)]) (j : S512x512.Idx) :
    gathered Y c ((tile o ho).view.emb j) = wide (Y p ((Rect.unit (s := S512x8192) q S512x512.size hq).emb j)) := by
  subst eo; subst eq
  have h0 : (j 0).val < 512 := (j 0).isLt
  have h1 : (j 1).val < 512 := (j 1).isLt
  have e0 : (((tile ![512 * p.val, 512 * h.val] ho).view.emb j) 0).val = 512 * p.val + 1 * (j 0).val := rfl
  have e1 : (((tile ![512 * p.val, 512 * h.val] ho).view.emb j) 1).val = 512 * h.val + 1 * (j 1).val := rfl
  have f0 : (((Rect.unit (s := S512x8192) ![0, 512 * (2 * c.val + h.val)] S512x512.size hq).emb j) 0).val = 0 + 1 * (j 0).val := rfl
  have f1 : (((Rect.unit (s := S512x8192) ![0, 512 * (2 * c.val + h.val)] S512x512.size hq).emb j) 1).val
    = 512 * (2 * c.val + h.val) + 1 * (j 1).val := rfl
  unfold gathered
  refine congrArg wide (congrArg₂ Y (Fin.ext ?_) ?_)
  · show (((tile ![512 * p.val, 512 * h.val] ho).view.emb j) 0).val / 512 = p.val
    rw [e0]; omega
  · rw [← Shape.pair_eta (d := ![512, 8192]) ((Rect.unit (s := S512x8192) ![0, 512 * (2 * c.val + h.val)] S512x512.size hq).emb j)]
    refine congrArg₂ (Shape.pair (d := ![512, 8192])) (Fin.ext ?_) (Fin.ext ?_)
    · refine Eq.trans ?_ f0.symm
      show (((tile ![512 * p.val, 512 * h.val] ho).view.emb j) 0).val % 512 = _
      rw [e0]; omega
    · refine Eq.trans ?_ f1.symm
      show 1024 * c.val + (((tile ![512 * p.val, 512 * h.val] ho).view.emb j) 1).val = _
      rw [e1]; omega

/-! ## The own block -/

/-- One half of the own column block is placed in the result. -/
theorem keep_step (h : Fin 2) (l : List (Fin 2)) :
    iprop((yPts Y c (half c h) ∗ spot (F := F) c (own h)) ∗ carry Y κ c 0)
      ⊢ run c (keep c h) fun _ => iprop((yPts Y c (half c h) ∗ cred (tallyAt (outCell c (own h)) () NF)) ∗ carry Y κ c 0) := by
  unfold carry keep
  iintro ⟨⟨Hy, Hsp⟩, #Hc, HO⟩
  iapply (wp_load_rect 𝒱₀ (c : Thread nD τ) none Set.univ (m := yM) (r := ownR c h) (S := ySet (half c h)) (q := fullShare) (f := Y c)
    (by rw [ownR_set])) $$ Hy
  iintro Hy
  iapply (place_step Y κ c (own h) (ownOff c h) (ownOff_inb c h) _ ((outOwn_set c h).trans (by rw [tileAt_own]))
    (fun j => (gathered_tile Y c c h (ownOff_inb c h) (ownOff_eq c h) (k1_off2_inb c h) (off2_eq c h) j).trans
      (congrArg wide (congrFun (shapeCast_self ((yM.access (ownR c h)).read (Elt F) (Y c)) shapeCasts_S512x512_S512x512) j).symm)) _)
  isplitr; · iexact Hc
  isplitl [Hsp]; · iexact Hsp
  iintro Hcr
  isplitr [HO]; · isplitl [Hy] <;> iassumption
  isplitr; · iexact Hc
  iexact HO

/-! ## Transfers received -/

/-- A credit token of an amount, named otherwise. -/
theorem cred_at (g : GSem nD τ sig) {n n' : ℕ} (h : n' = n) : (cred (tallyAt g () n) : sProp 𝕄) = cred (tallyAt g () n') := by rw [h]

/-- What landed in slot `k` is placed in the result. -/
theorem take_step (k : Slot) (l : List Slot) :
    iprop((cred (tallyAt (recvCell c k) () NB) ∗ atPos ER (recvCell c k) 0 ∅ 0 ∗ spot (F := F) c k.blk) ∗ carry Y κ c 0)
      ⊢ run c (take c k) fun _ => iprop((atPos ER (recvCell c k) (0 + 1) ∅ 0 ∗ rcvAny (F := F) c k.pos ∗ cred (tallyAt (outCell c k.blk) () NF))
        ∗ carry Y κ c 0) := by
  unfold carry take
  iintro ⟨⟨Hcr, Hat, Hsp⟩, #Hc, %W, HO⟩
  iapply (Rounds.wp_wait_rest_token 𝒱₀ ER (sched Y) (c : Thread nD τ) none (κ := κ (recvCell c k))
      (wpE_waitDma2_eq (src := (yM.slice (Rect.unit (s := S512x8192) ![0, 0] S512x512.size inb_S512x8192_S512x512_0_0) (fun _ => rfl) : Memref sig .tc .vmem S512x512 .bf16)) (dst := rcvV k.pos) 𝒱₀ (c : Thread nD τ) none Set.univ) (Set.mem_univ _) () (O := 0) (W := W) (R := 0) (m := 0) (T := ∅)
      ((Nat.zero_add _).trans ((credit_rcv k.pos).trans (expect_recv Y c k).symm))) $$ [Hcr HO Hat]
  · isplitr; · iapply (ctx_recv Y κ c c k); iexact Hc
    isplitl [Hcr]; · iapply (Entails.of_eq (cred_at _ (credit_rcv k.pos))); iexact Hcr
    isplitl [HO]; · iexact HO
    isplitr; · rw [MayWait_zero]; iempintro
    iexact Hat
  iintro ⟨HO, Hat, -, Hpay⟩
  ihave Hp := (Entails.of_eq (rest_recv Y c k)) $$ Hpay
  unfold recvPay
  icases Hp with ⟨%f, %hf, Hr⟩
  iapply (wp_load_rect 𝒱₀ (c : Thread nD τ) none Set.univ (m := rcvM) (r := rcvR k.pos) (S := rcvSet k.pos) (q := fullShare) (f := f)
    (by rw [rcvR_set])) $$ Hr
  iintro Hr
  iapply (place_step Y κ c k.blk (outOff c k) (outOff_inb c k) _ ((outV_set c k).trans (by rw [tileAt_blk]))
    (fun j => (gathered_tile Y c (dn c k.1) k.2 (outOff_inb c k) (outOff_eq c k) (k1_off1_inb (dn c k.1) k.1 k.2) ((off1_eq (dn c k.1) k).trans (by rw [up_dn])) j).trans
      (congrArg wide (congrFun hf j).symm)) _)
  isplitr; · iexact Hc
  isplitl [Hsp]; · iexact Hsp
  iintro Hcr
  isplitr [HO]
  · isplitl [Hat]; · iexact Hat
    isplitl [Hr]; · iexists f; iexact Hr
    iexact Hcr
  isplitr; · iexact Hc
  iexists _; iexact HO

/-! ## The last waits -/

/-- The copy out of widened block `t` is over: its tile is filled and the block is back. -/
theorem outWait_step (t : Fin 16) (o : Fin 2 → Nat) (ho) :
    iprop((cred (tallyAt (outCell c t) () NF) ∗ atPos ER (outCell c t) 0 ∅ 0) ∗ carry Y κ c 0)
      ⊢ run c (outWait t (tile o ho)) fun _ => iprop((atPos ER (outCell c t) (0 + 1) ∅ 0 ∗ outPay Y c t) ∗ carry Y κ c 0) := by
  unfold carry outWait
  iintro ⟨⟨Hcr, Hat⟩, #Hc, %W, HO⟩
  iapply (Rounds.wp_wait_rest_token 𝒱₀ ER (sched Y) (c : Thread nD τ) none (κ := κ (outCell c t))
      (wpE_waitDma2_eq (src := stgV t) (dst := tile o ho) 𝒱₀ (c : Thread nD τ) none Set.univ) (Set.mem_univ _) () (O := 0) (W := W) (R := 0) (m := 0) (T := ∅)
      ((Nat.zero_add _).trans ((credit_out o ho).trans (expect_out Y c t).symm))) $$ [Hcr HO Hat]
  · isplitr; · iapply (ctx_out Y κ c t); iexact Hc
    isplitl [Hcr]; · iapply (Entails.of_eq (cred_at _ (credit_out o ho))); iexact Hcr
    isplitl [HO]; · iexact HO
    isplitr; · rw [MayWait_zero]; iempintro
    iexact Hat
  iintro ⟨HO, Hat, -, Hpay⟩
  ihave Hp := (Entails.of_eq (rest_out Y c t)) $$ Hpay
  rw [wp_ret]; imodintro
  isplitl [Hat Hp]; · isplitl [Hat] <;> iassumption
  isplitr; · iexact Hc
  iexists _; iexact HO

/-- A sent panel has been read and is back. -/
theorem sendWait_step (k : Slot) (l : List Slot) :
    iprop((cred (tallyAt (sendCell c k) () NB) ∗ atPos ER (sendCell c k) 0 ∅ 0) ∗ carry Y κ c 0)
      ⊢ run c (sendWait c k) fun _ => iprop((atPos ER (sendCell c k) (0 + 1) ∅ 0 ∗ yPts Y c (yPan c k)) ∗ carry Y κ c 0) := by
  unfold carry sendWait
  iintro ⟨⟨Hcr, Hat⟩, #Hc, %W, HO⟩
  iapply (Rounds.wp_wait_rest_token 𝒱₀ ER (sched Y) (c : Thread nD τ) none (κ := κ (sendCell c k))
      (wpE_waitDma2_eq (src := rcvV k.pos) (dst := yV c k) 𝒱₀ (c : Thread nD τ) none Set.univ) (Set.mem_univ _) () (O := 0) (W := W) (R := 0) (m := 0) (T := ∅)
      ((Nat.zero_add _).trans ((credit_y c k).trans (expect_send Y c k).symm))) $$ [Hcr HO Hat]
  · isplitr; · iapply (ctx_send Y κ c k); iexact Hc
    isplitl [Hcr]; · iapply (Entails.of_eq (cred_at _ (credit_y c k))); iexact Hcr
    isplitl [HO]; · iexact HO
    isplitr; · rw [MayWait_zero]; iempintro
    iexact Hat
  iintro ⟨HO, Hat, -, Hpay⟩
  ihave Hp := (Entails.of_eq (rest_send Y c k)) $$ Hpay
  rw [wp_ret]; imodintro
  isplitl [Hat Hp]; · isplitl [Hat]; · iexact Hat
                      unfold sendPay; iexact Hp
  isplitr; · iexact Hc
  iexists _; iexact HO

end Cert.KernelIdeal.Exchange

end
-- ==== Proof.Run.lean ====
/- One device's exchange, from what it holds when the exchange's region opens to what it holds when it closes. -/
module

public import proofs.«01_k».proof.Proof.Steps

@[expose] public section

noncomputable section

namespace Cert.KernelIdeal.Exchange

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

/-! ## Listed resources -/

theorem bigSepL_pair {α : Type} (l : List α) (Φ Ψ : α → sProp 𝕄) :
    bigSepL l (fun a => iprop(Φ a ∗ Ψ a)) = iprop(bigSepL l Φ ∗ bigSepL l Ψ) := by
  induction l with
  | nil => exact (equiv_iff.mp emp_sep).symm
  | cons a l ih =>
    rw [bigSepL_cons', bigSepL_cons', bigSepL_cons', ih]
    have h1 : iprop((Φ a ∗ Ψ a) ∗ (bigSepL l Φ ∗ bigSepL l Ψ)) ⊢ iprop((Φ a ∗ bigSepL l Φ) ∗ (Ψ a ∗ bigSepL l Ψ)) := by
      iintro ⟨⟨H1, H2⟩, H3, H4⟩
      isplitl [H1 H3]
      · isplitl [H1] <;> iassumption
      · isplitl [H2] <;> iassumption
    have h2 : iprop((Φ a ∗ bigSepL l Φ) ∗ (Ψ a ∗ bigSepL l Ψ)) ⊢ iprop((Φ a ∗ Ψ a) ∗ (bigSepL l Φ ∗ bigSepL l Ψ)) := by
      iintro ⟨⟨H1, H2⟩, H3, H4⟩
      isplitl [H1 H3]
      · isplitl [H1] <;> iassumption
      · isplitl [H2] <;> iassumption
    exact equiv_iff.mp ⟨h1, h2⟩

theorem list_all {α : Type} [Fintype α] [DecidableEq α] {l : List α} (h : ∀ a, a ∈ l) : (Finset.univ : Finset α) = l.toFinset :=
  (Finset.eq_univ_of_forall fun a => List.mem_toFinset.mpr (h a)).symm

/-- A family over the slots, peer by peer. -/
theorem by_peer (Ψ : Slot → sProp 𝕄) : bigSepL peers (fun d => iprop(Ψ (d, 0) ∗ Ψ (d, 1))) = bigSepL slots Ψ := by
  rw [← bigSep_univ_eq_bigSepL slots (list_all slots_mem) slots_nodup, bigSep_univ_prod,
    bigSep_univ_eq_bigSepL peers (list_all peers_mem) peers_nodup]
  exact congrArg (bigSepL peers) (funext fun d => (bigSep_fin_two fun b => Ψ (d, b)).symm)

/-- A family over the peers, in the order of the signals. -/
theorem by_signal (Ψ : Fin 7 → sProp 𝕄) : bigSepL peers (fun k => Ψ k.rev) = bigSepL peers Ψ := by
  rw [← bigSep_univ_eq_bigSepL peers (list_all peers_mem) peers_nodup, ← bigSep_univ_eq_bigSepL peers (list_all peers_mem) peers_nodup]
  exact (bigSep_univ_equiv Fin.revPerm Ψ).symm

/-- A whole buffer, cut into listed pieces. -/
theorem cut_list {B : Type} [Fintype B] [DecidableEq B] (c : Dev nD) (b : Ref sig .tc) (I : B → Finset b.ty.Idx)
    (hd : ∀ n m, n ≠ m → Disjoint (I n) (I m)) (hc : Finset.univ.biUnion I = Finset.univ) (l : List B) (hl : l.Nodup) (hm : ∀ n, n ∈ l)
    (f : b.ty.Contents (Elt F)) : (((c : Thread nD τ).loc b ↦{fullShare} f) : sProp 𝕄) = bigSepL l fun n => on c b (I n) f := by
  rw [Ring.pointsTo_blocks (ℓ := (c : Thread nD τ).loc b) I hd hc f]
  exact bigSep_univ_eq_bigSepL l (list_all hm) hl _

/-- Listed pieces of a buffer, at contents not chosen, make the buffer. -/
theorem join_list {B : Type} [Fintype B] [DecidableEq B] (c : Dev nD) (b : Ref sig .tc) (I : B → Finset b.ty.Idx)
    (hd : ∀ n m, n ≠ m → Disjoint (I n) (I m)) (hc : Finset.univ.biUnion I = Finset.univ) (l : List B) (hl : l.Nodup) (hm : ∀ n, n ∈ l)
    (f₀ : b.ty.Contents (Elt F)) :
    bigSepL l (fun n => iprop(∃ f, on c b (I n) f)) ⊢ (iprop(∃ f : b.ty.Contents (Elt F), (c : Thread nD τ).loc b ↦{fullShare} f) : sProp 𝕄) := by
  rw [← bigSep_univ_eq_bigSepL l (list_all hm) hl]
  exact Ring.pointsTo_blocks_join_exists (ℓ := (c : Thread nD τ).loc b) I hd hc f₀

abbrev blks : List (Fin 16) := slots.map Slot.blk ++ halves.map own
theorem tileAt_inj : ∀ (c : Dev nD) (n m : Fin 16), tileAt c n = tileAt c m → n = m := by decide +kernel
theorem tileAt_surj : ∀ (c : Dev nD) (n : Fin 16), ∃ t, tileAt c t = n := by decide +kernel
theorem tileAt_disjoint (c : Dev nD) (n m : Fin 16) (h : n ≠ m) : Disjoint (oSet (tileAt c n)) (oSet (tileAt c m)) :=
  oSet_disjoint _ _ fun e => h (tileAt_inj c n m e)
theorem tileAt_cover (c : Dev nD) : (Finset.univ.biUnion fun t => oSet (tileAt c t)) = Finset.univ :=
  Finset.eq_univ_of_forall fun i => by
    obtain ⟨n, -, hn⟩ := Finset.mem_biUnion.mp (oSet_cover.symm ▸ Finset.mem_univ i)
    obtain ⟨t, rfl⟩ := tileAt_surj c n
    exact Finset.mem_biUnion.mpr ⟨t, Finset.mem_univ t, hn⟩

variable (Y : Prods F) (κ : GSem nD τ sig → ℕ) (c : Dev nD)

/-- A whole buffer of device `c`. -/
abbrev pt (b : Ref sig .tc) (f : b.ty.Contents (Elt F)) : sProp 𝕄 := (c : Thread nD τ).loc b ↦{fullShare} f
abbrev ptAny (b : Ref sig .tc) : sProp 𝕄 := iprop(∃ f : b.ty.Contents (Elt F), (c : Thread nD τ).loc b ↦{fullShare} f)

theorem y_cut : (pt c cc1_stg0_0 (Y c) : sProp 𝕄)
    = iprop(bigSepL slots (fun k => yPts Y c (yPan c k)) ∗ bigSepL halves (fun h => yPts Y c (half c h))) := by
  rw [pt, cut_list c cc1_stg0_0 ySet ySet_disjoint ySet_cover _ (panels_nodup c) (panels_mem c), bigSepL_append, bigSepL_map, bigSepL_map]
theorem o_cut (f : S4096x1024.Idx → Elt F .f32) : (pt c main_v2 f : sProp 𝕄)
    = iprop(bigSepL slots (fun k => oPts c (tileAt c k.blk) f) ∗ bigSepL halves (fun h => oPts c (tileAt c (own h)) f)) := by
  rw [pt, cut_list c main_v2 (fun t => oSet (tileAt c t)) (tileAt_disjoint c) (tileAt_cover c) blks blks_nodup blks_mem, bigSepL_append, bigSepL_map,
    bigSepL_map]
theorem stg_cut (f : S16x512x512.Idx → Elt F .f32) : (pt c cc1_scratch1 f : sProp 𝕄)
    ⊢ iprop(bigSepL slots (fun k => stgAny c k.blk) ∗ bigSepL halves (fun h => stgAny c (own h))) := by
  rw [pt, cut_list c cc1_scratch1 stgSet stgSet_disjoint stgSet_cover blks blks_nodup blks_mem, bigSepL_append, bigSepL_map, bigSepL_map]
  refine BIClass.sep_mono (bigSepL_mono fun _ _ => ?_) (bigSepL_mono fun _ _ => ?_) <;> (iintro H; iexists f; iexact H)
theorem stg_join (f : S16x512x512.Idx → Elt F .f32) :
    iprop(bigSepL slots (fun k => stgAny c k.blk) ∗ bigSepL halves (fun h => stgAny c (own h))) ⊢ (ptAny c cc1_scratch1 : sProp 𝕄) := by
  have h := join_list (F := F) c cc1_scratch1 stgSet stgSet_disjoint stgSet_cover blks blks_nodup blks_mem f
  rw [bigSepL_append, bigSepL_map, bigSepL_map] at h
  exact h
theorem rcv_cut (f : S14x512x512.Idx → Elt F .bf16) : (pt c cc1_scratch0 f : sProp 𝕄) ⊢ bigSepL slots (fun k => rcvAny c k.pos) := by
  rw [pt, cut_list c cc1_scratch0 rcvSet rcvSet_disjoint rcvSet_cover _ pos_nodup pos_mem, bigSepL_map]
  exact bigSepL_mono fun _ _ => by iintro H; iexists f; iexact H
theorem rcv_join (f : S14x512x512.Idx → Elt F .bf16) : bigSepL slots (fun k => rcvAny c k.pos) ⊢ (ptAny c cc1_scratch0 : sProp 𝕄) := by
  have h := join_list (F := F) c cc1_scratch0 rcvSet rcvSet_disjoint rcvSet_cover _ pos_nodup pos_mem f
  rw [bigSepL_map] at h
  exact h

/-! ## What a device brings to the exchange -/

/-- The tokens of what it pays: its signals, its copies out, its transfers at both ends. -/
def toks : sProp 𝕄 :=
  iprop(bigSepL peers (fun k => dutyTok ER (barCell (up c k)) 0 k.rev)
    ∗ bigSepL slots (fun k => dutyTok ER (outCell c k.blk) 0 0) ∗ bigSepL halves (fun h => dutyTok ER (outCell c (own h)) 0 0)
    ∗ bigSepL slots (fun k => dutyTok ER (sendCell c k) 0 0) ∗ bigSepL slots (fun k => dutyTok ER (recvCell (up c k.1) k) 0 0))
/-- The credit of what others pay it. -/
def creds : sProp 𝕄 := iprop(cred (tallyAt (barCell c) () 7) ∗ bigSepL slots fun k => cred (tallyAt (recvCell c k) () NB))
/-- Its own counters, opened, at round `n`. -/
def at_ (n : ℕ) : sProp 𝕄 := iprop(atPos ER (barCell c) n ∅ 0 ∗ bigSep Finset.univ fun k : Fin 44 => atPos ER (ownCell c k) n ∅ 0)

theorem at_eq (n : ℕ) : at_ (F := F) c n = iprop(atPos ER (barCell c) n ∅ 0
    ∗ bigSepL slots (fun k => atPos ER (outCell c k.blk) n ∅ 0) ∗ bigSepL halves (fun h => atPos ER (outCell c (own h)) n ∅ 0)
    ∗ bigSepL slots (fun k => atPos ER (sendCell c k) n ∅ 0) ∗ bigSepL slots (fun k => atPos ER (recvCell c k) n ∅ 0)) := by
  unfold at_
  rw [own_split]
  simp only [← outCell_eq, ← sendCell_eq, ← recvCell_eq]

def exchangePre (W : Waits sig Unit) : sProp 𝕄 :=
  iprop(ctx Y κ c ∗ at_ (F := F) c 0 ∗ toks (F := F) c ∗ creds (F := F) c ∗ pt c cc1_stg0_0 (Y c) ∗ ptAny (F := F) c cc1_scratch0 ∗ ptAny (F := F) c cc1_scratch1
    ∗ ptAny (F := F) c main_v2 ∗ owes (c : Thread nD τ) (O₀ c) W)

/-- Every counter of the exchange back at zero; the product as it was; the landing slots and widened blocks at contents not
    chosen; the result gathered; nothing owed. -/
def exchangePost : sProp 𝕄 :=
  iprop(semVal (barCell c) 0 ∗ (bigSep Finset.univ fun k : Fin 44 => semVal (ownCell c k) 0) ∗ pt c cc1_stg0_0 (Y c) ∗ ptAny (F := F) c cc1_scratch0
    ∗ ptAny (F := F) c cc1_scratch1 ∗ pt c main_v2 (gathered Y c) ∗ ∃ W, owes (c : Thread nD τ) (0 : CellTallies nD τ sig Unit) W)

theorem close (g : GSem nD τ sig) : iprop(cellInv ER (sched Y) (κ g) g ∗ atPos ER g (0 + 1) ∅ 0) ⊢ (|={Set.univ}=> semVal g 0 : sProp 𝕄) :=
  Rounds.cell_close ER (sched Y) (Set.mem_univ (κ g)) id (duties_later Y g)

/-- Every own counter, its round over, is closed. -/
theorem close_own : iprop(records Y κ ∗ bigSep Finset.univ fun k : Fin 44 => atPos ER (ownCell c k) (0 + 1) ∅ 0)
    ⊢ (|={Set.univ}=> bigSep Finset.univ fun k : Fin 44 => semVal (ownCell c k) 0 : sProp 𝕄) :=
  (bigSep_with_persistent (R := records Y κ) fun k _ => (sep_mono_left (records_own Y κ c k)).trans (close Y κ (ownCell c k))).trans
    (bigSep_fupd _ _)

theorem ctx_records : ctx Y κ c ⊢ records Y κ := sep_elim_left

theorem signalsOwed_nil : signalsOwed c [] = sendsOwed c slots := zero_add _
theorem sendsOwed_nil : sendsOwed c [] = 0 := rfl

/-- One part of a program, then the rest. -/
theorem run_seq {p : Body F} {P Q : sProp 𝕄} (h : P ⊢ run c p fun _ => Q) (k : PUnit → Body F) (K : PUnit → sProp 𝕄) :
    iprop(P ∗ (Q -∗ run c (k ⟨⟩) K)) ⊢ run c (p >>= k) K := by
  rw [run, run, wp_bind]
  have h1 : iprop(run c p (fun _ => Q) ∗ (Q -∗ run c (k ⟨⟩) K)) ⊢ run c p fun _ => iprop(Q ∗ (Q -∗ run c (k ⟨⟩) K)) := wp_frame_r _ _ _
  refine BIBase.Entails.trans ?_ (h1.trans (wp_mono _ _ _ fun _ => ?_))
  · iintro ⟨HP, HK⟩
    isplitl [HP]; · iapply h; iexact HP
    iexact HK
  · iintro ⟨HQ, HK⟩
    iapply HK; iexact HQ

/-- The last part of a program. -/
theorem run_last {p : Body F} {P Q : sProp 𝕄} (h : P ⊢ run c p fun _ => Q) (K : PUnit → sProp 𝕄) :
    iprop(P ∗ (Q -∗ |={Set.univ}=> K ⟨⟩)) ⊢ run c p K := by
  have h1 : iprop(run c p (fun _ => Q) ∗ (Q -∗ |={Set.univ}=> K ⟨⟩)) ⊢ run c p fun _ => iprop(Q ∗ (Q -∗ |={Set.univ}=> K ⟨⟩)) := wp_frame_r _ _ _
  refine BIBase.Entails.trans ?_ ((h1.trans (wp_mono _ _ _ (Q' := fun a => iprop(|={Set.univ}=> K a)) fun _ => ?_)).trans (wp_fupd _ _ _ _ _))
  · iintro ⟨HP, HK⟩
    isplitl [HP]; · iapply h; iexact HP
    iexact HK
  · iintro ⟨HQ, HK⟩
    iapply HK; iexact HQ

/-- The landing slots, with the news that their counters are open, are the gifts, in the order of the signals. -/
theorem gifts_intro : iprop(ctx Y κ c ∗ bigSepL slots (fun k => rcvAny (F := F) c k.pos)) ⊢ bigSepL peers fun k => gift (F := F) c k.rev := by
  rw [by_signal (fun d => gift (F := F) c d)]
  unfold gift
  rw [by_peer (fun k => gift1 (F := F) c k), ← bigSep_univ_eq_bigSepL slots (list_all slots_mem) slots_nodup,
    ← bigSep_univ_eq_bigSepL slots (list_all slots_mem) slots_nodup]
  refine bigSep_with_persistent (R := ctx Y κ c) fun k _ => ?_
  unfold gift1
  iintro ⟨#Hc, Hr⟩
  isplitl [Hr]; · iexact Hr
  iapply (ctx_reached_recv Y κ c k); iexact Hc

/-- The gifts that came with the barrier, slot by slot. -/
theorem gifts_elim : (bigSepL peers fun d => gift (F := F) (up c d) d) = bigSepL slots fun k => gift1 (F := F) (up c k.1) k := by
  unfold gift
  exact by_peer fun k => gift1 (F := F) (up c k.1) k

/-- What the copies out need, block by block. -/
theorem spots_intro {α : Type} (l : List α) (b : α → Fin 16) (f : S4096x1024.Idx → Elt F .f32) :
    iprop(bigSepL l (fun a => dutyTok ER (outCell c (b a)) 0 0) ∗ bigSepL l (fun a => stgAny (F := F) c (b a))
      ∗ bigSepL l (fun a => oPts c (tileAt c (b a)) f)) ⊢ bigSepL l fun a => spot (F := F) c (b a) := by
  rw [← bigSepL_pair, ← bigSepL_pair]
  refine bigSepL_mono fun a _ => ?_
  unfold spot
  iintro ⟨Ht, Hs, Ho⟩
  isplitl [Ht]; · iexact Ht
  isplitl [Hs]; · iexact Hs
  iexists f; iexact Ho

/-- What the copies out leave, block by block. -/
theorem outPays_elim {α : Type} (l : List α) (b : α → Fin 16) :
    bigSepL l (fun a => iprop(atPos ER (outCell c (b a)) (0 + 1) ∅ 0 ∗ outPay Y c (b a)))
      ⊢ iprop(bigSepL l (fun a => atPos ER (outCell c (b a)) (0 + 1) ∅ 0) ∗ bigSepL l (fun a => oPts c (tileAt c (b a)) (gathered Y c))
        ∗ bigSepL l fun a => stgAny (F := F) c (b a)) := by
  rw [bigSepL_pair]
  unfold outPay
  rw [bigSepL_pair]

theorem signals_run : iprop(bigSepL peers (fun k => iprop(dutyTok ER (barCell (up c k)) 0 k.rev ∗ gift (F := F) c k.rev)) ∗ carry Y κ c (signalsOwed c peers))
    ⊢ run c (each (signal c) peers) fun _ => iprop(bigSepL peers (fun _ => iprop(emp)) ∗ carry Y κ c (sendsOwed c slots)) := by
  rw [← signalsOwed_nil]
  exact run_each c (signal c) _ _ (fun l => carry Y κ c (signalsOwed c l)) (signal_step Y κ c) peers
theorem sends_run : iprop(bigSepL slots (fun k => iprop(dutyTok ER (sendCell c k) 0 0 ∗ dutyTok ER (recvCell (up c k.1) k) 0 0 ∗ yPts Y c (yPan c k)
      ∗ gift1 (F := F) (up c k.1) k)) ∗ carry Y κ c (sendsOwed c slots))
    ⊢ run c (each (send c) slots) fun _ => iprop(bigSepL slots (fun k => cred (tallyAt (sendCell c k) () NB)) ∗ carry Y κ c 0) := by
  rw [← sendsOwed_nil c]
  exact run_each c (send c) _ _ (fun l => carry Y κ c (sendsOwed c l)) (send_step Y κ c) slots
theorem keeps_run : iprop(bigSepL halves (fun h => iprop(yPts Y c (half c h) ∗ spot (F := F) c (own h))) ∗ carry Y κ c 0)
    ⊢ run c (each (keep c) halves) fun _ =>
      iprop(bigSepL halves (fun h => iprop(yPts Y c (half c h) ∗ cred (tallyAt (outCell c (own h)) () NF))) ∗ carry Y κ c 0) :=
  run_each c (keep c) _ _ (fun _ => carry Y κ c 0) (keep_step Y κ c) halves
theorem takes_run : iprop(bigSepL slots (fun k => iprop(cred (tallyAt (recvCell c k) () NB) ∗ atPos ER (recvCell c k) 0 ∅ 0 ∗ spot (F := F) c k.blk))
      ∗ carry Y κ c 0)
    ⊢ run c (each (take c) slots) fun _ =>
      iprop(bigSepL slots (fun k => iprop(atPos ER (recvCell c k) (0 + 1) ∅ 0 ∗ rcvAny (F := F) c k.pos ∗ cred (tallyAt (outCell c k.blk) () NF)))
        ∗ carry Y κ c 0) :=
  run_each c (take c) _ _ (fun _ => carry Y κ c 0) (take_step Y κ c) slots
theorem outs_run : iprop(bigSepL slots (fun k => iprop(cred (tallyAt (outCell c k.blk) () NF) ∗ atPos ER (outCell c k.blk) 0 ∅ 0)) ∗ carry Y κ c 0)
    ⊢ run c (each (fun k : Slot => outWait k.blk (outV c k)) slots) fun _ =>
      iprop(bigSepL slots (fun k => iprop(atPos ER (outCell c k.blk) (0 + 1) ∅ 0 ∗ outPay Y c k.blk)) ∗ carry Y κ c 0) :=
  run_each c _ _ _ (fun _ => carry Y κ c 0) (fun k _ => outWait_step Y κ c k.blk (outOff c k) (outOff_inb c k)) slots
theorem owns_run : iprop(bigSepL halves (fun h => iprop(cred (tallyAt (outCell c (own h)) () NF) ∗ atPos ER (outCell c (own h)) 0 ∅ 0)) ∗ carry Y κ c 0)
    ⊢ run c (each (fun h : Fin 2 => outWait (own h) (outOwn c h)) halves) fun _ =>
      iprop(bigSepL halves (fun h => iprop(atPos ER (outCell c (own h)) (0 + 1) ∅ 0 ∗ outPay Y c (own h))) ∗ carry Y κ c 0) :=
  run_each c _ _ _ (fun _ => carry Y κ c 0) (fun h _ => outWait_step Y κ c (own h) (ownOff c h) (ownOff_inb c h)) halves
theorem sendWaits_run : iprop(bigSepL slots (fun k => iprop(cred (tallyAt (sendCell c k) () NB) ∗ atPos ER (sendCell c k) 0 ∅ 0)) ∗ carry Y κ c 0)
    ⊢ run c (each (sendWait c) slots) fun _ =>
      iprop(bigSepL slots (fun k => iprop(atPos ER (sendCell c k) (0 + 1) ∅ 0 ∗ yPts Y c (yPan c k))) ∗ carry Y κ c 0) :=
  run_each c (sendWait c) _ _ (fun _ => carry Y κ c 0) (sendWait_step Y κ c) slots

set_option maxHeartbeats 1000000 in
/-- The exchange, run. -/
theorem exchange_run (W : Waits sig Unit) (K : PUnit → sProp 𝕄) :
    iprop(exchangePre Y κ c W ∗ (exchangePost Y c -∗ K ⟨⟩)) ⊢ run c exchange K := by
  unfold exchangePre exchange run
  rw [wp_deviceId, at_eq, y_cut]
  unfold toks creds O₀
  iintro ⟨⟨#Hc, ⟨HaB, HaO, HaOw, HaS, HaR⟩, ⟨HtB, HtO, HtOw, HtS, HtR⟩, ⟨HcB, HcR⟩, ⟨Hy, HyO⟩, ⟨%fr, Hr⟩, ⟨%fs, Hs⟩, ⟨%fo, Ho⟩, HO⟩, HK⟩
  ihave Hr := (rcv_cut c fr) $$ Hr
  ihave Hg := (gifts_intro Y κ c) $$ [Hr]
  · isplitr; · iexact Hc
    iexact Hr
  ihave Hs := (stg_cut c fs) $$ Hs
  icases Hs with ⟨Hs, HsO⟩
  ihave Ho := (Entails.of_eq (o_cut c fo)) $$ Ho
  icases Ho with ⟨Ho, HoO⟩
  ihave Hsp := (spots_intro c slots Slot.blk fo) $$ [HtO Hs Ho]
  · isplitl [HtO]; · iexact HtO
    isplitl [Hs] <;> iassumption
  ihave HspO := (spots_intro c halves own fo) $$ [HtOw HsO HoO]
  · isplitl [HtOw]; · iexact HtOw
    isplitl [HsO] <;> iassumption
  -- the signals
  iapply (run_seq c (signals_run Y κ c) _ _)
  isplitl [HtB Hg HO]
  · isplitl [HtB Hg]
    · rw [bigSepL_pair]; isplitl [HtB] <;> iassumption
    unfold carry
    isplitr; · iexact Hc
    iexists W; iexact HO
  iintro ⟨-, HJ⟩
  -- the barrier
  iapply (run_seq c (barrier_step Y κ c) _ _)
  isplitl [HcB HaB HJ]
  · isplitl [HcB HaB]; · isplitl [HcB] <;> iassumption
    iexact HJ
  iintro ⟨⟨HaB, Hg⟩, HJ⟩
  ihave Hg := (Entails.of_eq (gifts_elim (F := F) c)) $$ Hg
  -- the transfers
  iapply (run_seq c (sends_run Y κ c) _ _)
  isplitl [HtS HtR Hy Hg HJ]
  · isplitr [HJ]
    · rw [bigSepL_pair, bigSepL_pair, bigSepL_pair]
      isplitl [HtS]; · iexact HtS
      isplitl [HtR]; · iexact HtR
      isplitl [Hy] <;> iassumption
    iexact HJ
  iintro ⟨HcS, HJ⟩
  -- the own block
  iapply (run_seq c (keeps_run Y κ c) _ _)
  isplitl [HyO HspO HJ]
  · isplitr [HJ]
    · rw [bigSepL_pair]; isplitl [HyO] <;> iassumption
    iexact HJ
  rw [bigSepL_pair]
  iintro ⟨⟨HyO, HcOw⟩, HJ⟩
  -- what the peers send
  iapply (run_seq c (takes_run Y κ c) _ _)
  isplitl [HcR HaR Hsp HJ]
  · isplitr [HJ]
    · rw [bigSepL_pair, bigSepL_pair]
      isplitl [HcR]; · iexact HcR
      isplitl [HaR] <;> iassumption
    iexact HJ
  rw [bigSepL_pair, bigSepL_pair]
  iintro ⟨⟨HaR, Hr, HcO⟩, HJ⟩
  -- the copies out
  iapply (run_seq c (outs_run Y κ c) _ _)
  isplitl [HcO HaO HJ]
  · isplitr [HJ]
    · rw [bigSepL_pair]; isplitl [HcO] <;> iassumption
    iexact HJ
  iintro ⟨HpO, HJ⟩
  ihave HpO := (outPays_elim Y c slots Slot.blk) $$ HpO
  icases HpO with ⟨HaO, Ho, Hs⟩
  iapply (run_seq c (owns_run Y κ c) _ _)
  isplitl [HcOw HaOw HJ]
  · isplitr [HJ]
    · rw [bigSepL_pair]; isplitl [HcOw] <;> iassumption
    iexact HJ
  iintro ⟨HpO, HJ⟩
  ihave HpO := (outPays_elim Y c halves own) $$ HpO
  icases HpO with ⟨HaOw, HoO, HsO⟩
  -- the panels back
  iapply (run_last c (sendWaits_run Y κ c) _)
  isplitl [HcS HaS HJ]
  · isplitr [HJ]
    · rw [bigSepL_pair]; isplitl [HcS] <;> iassumption
    iexact HJ
  rw [bigSepL_pair]
  iintro ⟨⟨HaS, Hy⟩, HJ⟩
  -- every counter closed
  ihave Hat := (Entails.of_eq (at_eq (F := F) c (0 + 1)).symm) $$ [HaB HaO HaOw HaS HaR]
  · isplitl [HaB]; · iexact HaB
    isplitl [HaO]; · iexact HaO
    isplitl [HaOw]; · iexact HaOw
    isplitl [HaS] <;> iassumption
  unfold at_
  icases Hat with ⟨HaB, Hat⟩
  imod (close Y κ (barCell c)) $$ [HaB] with Hb0
  · isplitr; · iapply (ctx_bar Y κ c c); iexact Hc
    iexact HaB
  imod (close_own Y κ c) $$ [Hat] with Hs0
  · isplitr; · iapply (ctx_records Y κ c); iexact Hc
    iexact Hat
  imodintro
  iapply HK
  unfold exchangePost carry
  icases HJ with ⟨-, HJ⟩
  isplitl [Hb0]; · iexact Hb0
  isplitl [Hs0]; · iexact Hs0
  isplitl [Hy HyO]
  · rw [y_cut]; isplitl [Hy] <;> iassumption
  isplitl [Hr]; · iapply (rcv_join c fr); iexact Hr
  isplitl [Hs HsO]
  · iapply (stg_join c fs); isplitl [Hs] <;> iassumption
  isplitl [Ho HoO]
  · rw [o_cut]; isplitl [Ho] <;> iassumption
  iexact HJ

end Cert.KernelIdeal.Exchange

end
-- ==== Proof.Gemm.lean ====
/- The product's region. Sixteen grid points: the first keeps the device's block of `x` in a scratch buffer, each computes one panel
   of 512 columns of the scaled product from that scratch, and the pipeline writes the panels back to one array. -/
module

public import proofs.«01_k».proof.Proof.Run
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionArraysS
public import Idealize.ShloMosaic.Lib.Tactic
public import Idealize.ShloMosaic.Lib.VecWindow

@[expose] public section

set_option maxRecDepth 16384

noncomputable section

namespace Cert.KernelIdeal.Exchange

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

/-! ## The body -/

/-- What the first point keeps is the block of `x`. -/
theorem kept_eq (x : Vec F S512x4096 .fp8e5m2) : k0_pay1 x = x := by
  unfold k0_pay1
  dsimp only
  exact (shapeCast_self _ _).trans (shapeCast_self _ _)

/-- The first point is the one that fills the scratch. -/
theorem first_point : ∀ n : Fin 16,
    (Scalar.cmpi .ne (Scalar.extui (Scalar.cmpi .eq (BitVec.ofNat 32 n.val) 0#32) : BitVec 32) 0#32 = 1#1) ↔ n.val = 0 := by decide +kernel

/-- The one index of a vector of one element. -/
abbrev one (k : Fin 1) : S1.Idx := fun _ => ⟨k.val, by have := k.isLt; fin_cases k; decide +revert⟩

theorem one_eq (j : S1.Idx) : j = one 0 := by
  funext a; fin_cases a; apply Fin.ext
  have h : (j 0).val < 1 := (j 0).isLt
  show (j 0).val = 0
  omega

theorem word_eq (v : View sig .tc .smem S1 .f32) (f : v.ty.Contents (Elt F)) (j : S1.Idx) : v.read (Elt F) f j = v.read (Elt F) f (one 0) :=
  congrArg _ (one_eq j)

/-- The panel one point computes, from the scales, the block of `x` and a panel of `w`. -/
def panelOf (sx sw : Vec F S1 .f32) (x : Vec F S512x4096 .fp8e5m2) (w : Vec F S4096x512 .fp8e5m2) : FVec F S512x512 .bf16 :=
  k0_pay2 (sx (one 0)) (sw (one 0)) x w

theorem panel_of {a b : F .f32} {x x' : Vec F S512x4096 .fp8e5m2} {w w' : Vec F S4096x512 .fp8e5m2} {sx sw : Vec F S1 .f32}
    (ha : a = sx (one 0)) (hb : b = sw (one 0)) (hx : x = x') (hw : w = w') : k0_pay2 a b x w = panelOf sx sw x' w' := by
  subst ha hb hx hw; rfl

set_option maxHeartbeats 1000000 in
/-- One point: from the inputs' buffers, and the scratch at the block of `x` unless it is the first point, to the result's buffer at
    the panel and the scratch at the block of `x`. -/
theorem gemm_body (c : Dev nD) (i : grid0.Coords)
    (arg1 : Memref sig .tc .vmem S512x4096 .fp8e5m2) (h1 : arg1.IsWhole) (arg2 : Memref sig .tc .vmem S4096x512 .fp8e5m2) (h2 : arg2.IsWhole)
    (arg3 : Memref sig .tc .smem S1 .f32) (h3 : arg3.IsWhole) (arg4 : Memref sig .tc .smem S1 .f32) (h4 : arg4.IsWhole)
    (arg5 : Memref sig .tc .vmem S512x512 .bf16) (h5 : arg5.IsWhole) (arg6 : Memref sig .tc .vmem S512x4096 .fp8e5m2) (h6 : arg6.IsWhole)
    (x : Vec F S512x4096 .fp8e5m2) (w : Vec F S4096x512 .fp8e5m2) (sx sw : Vec F S1 .f32) (z : Vec F S512x4096 .fp8e5m2)
    (hz : (i 0).val ≠ 0 → z = x) (K : PUnit → sProp 𝕄) :
    iprop(owns (c : Thread nD τ) arg1 fullShare x ∗ owns (c : Thread nD τ) arg2 fullShare w ∗ owns (c : Thread nD τ) arg3 fullShare sx
        ∗ owns (c : Thread nD τ) arg4 fullShare sw ∗ (∃ d, owns (c : Thread nD τ) arg5 fullShare d) ∗ owns (c : Thread nD τ) arg6 fullShare z
        ∗ (iprop(owns (c : Thread nD τ) arg1 fullShare x ∗ owns (c : Thread nD τ) arg2 fullShare w ∗ owns (c : Thread nD τ) arg3 fullShare sx
            ∗ owns (c : Thread nD τ) arg4 fullShare sw ∗ owns (c : Thread nD τ) arg5 fullShare (panelOf sx sw x w)
            ∗ owns (c : Thread nD τ) arg6 fullShare x) -∗ K ⟨⟩))
      ⊢ wp frame (wpE (defs₀ (F := F)) 𝒱₀ c none) Set.univ (cc0_gemm_body i arg1 h1 arg2 h2 arg3 h3 arg4 h4 arg5 h5 arg6 h6) K := by
  simp only [cc0_gemm_body_eq_skeleton]; unfold cc0_gemm_body_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1 hf2 hf3 hf4 hf6
  by_cases hi : (i 0).val = 0
  · have hc := (first_point (i 0)).mpr hi
    sl_exec
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      refine (View.read_writes_full _ _ _ _ _).trans ?_
      refine panel_of (word_eq arg3.view f3 _) (word_eq arg4.view f4 _) ((View.readCov_full _ _ _ _ _).trans ((kept_eq _).trans (View.readAt_full _ _ _))) (View.readAt_full _ _ _)
    iexists _; isplitr
    swap; · iexact H6
    ipureintro
    exact (View.read_writes_full _ _ _ _ _).trans ((kept_eq _).trans (View.readAt_full _ _ _))
  · have hc := (not_congr (first_point (i 0))).mpr hi
    sl_exec
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      refine (View.read_writes_full _ _ _ _ _).trans ?_
      refine panel_of (word_eq arg3.view f3 _) (word_eq arg4.view f4 _) ((View.readAt_full _ _ _).trans (hz hi)) (View.readAt_full _ _ _)
    iexists _; isplitr
    swap; · iexact H6
    ipureintro
    exact hz hi

/-! ## The region's proof data -/

variable (m : (ℓ : Loc nD τ sig) → Buf (Elt F) ℓ)

/-- Window `w`'s block at point `t` of the launch contents. -/
def iblk (c : Dev nD) (w : Fin cfg0.W) (t : Fin cfg0.N) : ((cfg0.win w).xblock (cfg0.grid.coords t)).Idx → Elt F (cfg0.win w).elt :=
  ((cfg0.win w).blk t).view.read (Elt F) (V0 m c (Proc.devRef .tc (Pipeline.arrRef spec0 w)))

/-- The block of `x`, the same at every point. -/
def xBlk (c : Dev nD) : Vec F S512x4096 .fp8e5m2 := iblk m c 0 t0_0

theorem xBlk_eq (c : Dev nD) (t : Fin cfg0.N) : iblk m c 0 t = xBlk m c := rfl

/-- The panel point `t` computes. -/
def panel (c : Dev nD) (t : Fin cfg0.N) : Vec F S512x512 .bf16 := panelOf (iblk m c 2 t) (iblk m c 3 t) (iblk m c 0 t) (iblk m c 1 t)

/-- The buffers of the exchange, which the product does not touch. -/
def spare (c : Dev nD) : sProp 𝕄 := iprop(ptAny c cc1_stg0_0 ∗ ptAny c cc1_scratch0 ∗ ptAny c cc1_scratch1)

/-- The scratch before point `t`: the block of `x`, except before the first. -/
def scratchAt (c : Dev nD) (n : ℕ) : sProp 𝕄 :=
  iprop(∃ z, ⌜n ≠ 0 → z = xBlk m c⌝ ∗ owns (c : Thread nD τ) (Memref.whole cc0_scratch0) fullShare z)

/-- The product's proof data: after each point the inputs' buffers at their blocks and the result's at its panel; the core owes
    what it will signal and send in the exchange throughout. -/
def dat0 (c : Dev nD) : Dat τ (Elt F) Unit ℕ UU ℕ cfg0 c where
  A w := V0 m c (Proc.devRef .tc (Pipeline.arrRef spec0 w))
  after w t := match w with
    | ⟨0, _⟩ => iblk m c 0 t
    | ⟨1, _⟩ => iblk m c 1 t
    | ⟨2, _⟩ => iblk m c 2 t
    | ⟨3, _⟩ => iblk m c 3 t
    | ⟨4, _⟩ => panel m c t
  Φ t := iprop(scratchAt m c t.val ∗ spare c)
  q _ := fullShare
  owed _ := O₀ c

theorem A0_eq (c : Dev nD) (w : Fin cfg0.W) : (dat0 m c).A w = V0 m c (Proc.devRef .tc (Pipeline.arrRef spec0 w)) := by
  dsimp only [dat0]
theorem after0_0 (c : Dev nD) (t : Fin cfg0.N) : (dat0 m c).after 0 t = iblk m c 0 t := by dsimp only [dat0]
theorem after0_1 (c : Dev nD) (t : Fin cfg0.N) : (dat0 m c).after 1 t = iblk m c 1 t := by dsimp only [dat0]
theorem after0_2 (c : Dev nD) (t : Fin cfg0.N) : (dat0 m c).after 2 t = iblk m c 2 t := by dsimp only [dat0]
theorem after0_3 (c : Dev nD) (t : Fin cfg0.N) : (dat0 m c).after 3 t = iblk m c 3 t := by dsimp only [dat0]
theorem after0_4 (c : Dev nD) (t : Fin cfg0.N) : (dat0 m c).after 4 t = panel m c t := by dsimp only [dat0]

/-- An input's buffer holds its block at every point, whether or not it was fetched there. -/
theorem before0 (c : Dev nD) (w : Fin cfg0.W) (hw : (cfg0.win w).isOut = false)
    (hcut : ∀ t, (cfg0.win w).cut (cfg0.grid.coords t) ((dat0 m c).after w t) = (dat0 m c).blockOf w t)
    (hclip : ∀ t t' : Fin cfg0.N, (cfg0.win w).index t = (cfg0.win w).index t' →
      (cfg0.win w).clip (cfg0.grid.coords t) = (cfg0.win w).clip (cfg0.grid.coords t'))
    (t : Fin cfg0.N) (d) : (dat0 m c).before w t d = (dat0 m c).fetched w t d :=
  (dat0 m c).before_in_eq_fetched w hw (fun _ => rfl) hclip hcut t d
theorem before0_0 (c : Dev nD) (t : Fin cfg0.N) (d) : (dat0 m c).before 0 t d = iblk m c 0 t :=
  (before0 m c 0 rfl (fun t => by rw [after0_0]; unfold Dat.blockOf iblk; rw [A0_eq]) (fun _ _ _ => rfl) t d).trans
    (by unfold Dat.fetched Dat.blockOf iblk; rw [A0_eq]; rfl)
theorem before0_1 (c : Dev nD) (t : Fin cfg0.N) (d) : (dat0 m c).before 1 t d = iblk m c 1 t :=
  (before0 m c 1 rfl (fun t => by rw [after0_1]; unfold Dat.blockOf iblk; rw [A0_eq]) (fun _ _ _ => rfl) t d).trans
    (by unfold Dat.fetched Dat.blockOf iblk; rw [A0_eq]; rfl)
theorem before0_2 (c : Dev nD) (t : Fin cfg0.N) (d) : (dat0 m c).before 2 t d = iblk m c 2 t :=
  (before0 m c 2 rfl (fun t => by rw [after0_2]; unfold Dat.blockOf iblk; rw [A0_eq]) (fun _ _ _ => rfl) t d).trans
    (by unfold Dat.fetched Dat.blockOf iblk; rw [A0_eq]; rfl)
theorem before0_3 (c : Dev nD) (t : Fin cfg0.N) (d) : (dat0 m c).before 3 t d = iblk m c 3 t :=
  (before0 m c 3 rfl (fun t => by rw [after0_3]; unfold Dat.blockOf iblk; rw [A0_eq]) (fun _ _ _ => rfl) t d).trans
    (by unfold Dat.fetched Dat.blockOf iblk; rw [A0_eq]; rfl)

/-! ## The body obligation -/

theorem coords0 : ∀ t : Fin grid0.N, (grid0.coords t 0).val = t.val := by decide +kernel

/-- What the body is called with at point `t`, window by window, and what it returns. -/
def bodyPre0 (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d))
    ∗ (∃ d, owns (c : Thread nD τ) (st0_3 t) fullShare ((dat0 m c).before 3 t d))
    ∗ (∃ d, owns (c : Thread nD τ) (st0_4 t) fullShare ((dat0 m c).before 4 t d)))
def bodyPost0 (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t)
    ∗ owns (c : Thread nD τ) (st0_3 t) fullShare ((dat0 m c).after 3 t)
    ∗ owns (c : Thread nD τ) (st0_4 t) fullShare ((dat0 m c).after 4 t))

theorem point_run (c : Dev nD) (t : Fin cfg0.N) :
    bodyPre0 m c t ⊢ wp frame (wpE (defs₀ (F := F)) 𝒱₀ c none) Set.univ (bodyAt0 t) (fun _ => bodyPost0 m c t) := by
  unfold bodyPre0 bodyPost0 bodyAt0
  simp only [before0_0, before0_1, before0_2, before0_3]
  rw [show (dat0 m c).Φ t.succ = iprop(scratchAt m c (t.val + 1) ∗ spare c) from rfl,
    show (dat0 m c).Φ t.castSucc = iprop(scratchAt m c t.val ∗ spare c) from rfl,
    show (dat0 m c).owesAt () t.succ = (dat0 m c).owesAt () t.castSucc from rfl,
    after0_0, after0_1, after0_2, after0_3, after0_4]
  unfold scratchAt
  iintro ⟨⟨⟨%z, %hz, H6⟩, Hsp⟩, Ho, ⟨%d0, H0⟩, ⟨%d1, H1⟩, ⟨%d2, H2⟩, ⟨%d3, H3⟩, ⟨%d4, H4⟩⟩
  iapply (gemm_body c (grid0.coords t) _ _ _ _ _ _ _ _ _ _ _ _ (iblk m c 0 t) (iblk m c 1 t) (iblk m c 2 t) (iblk m c 3 t) z
    (fun h => hz (by rw [← coords0 t]; exact h)) _)
  isplitl [H0]; · iexact H0
  isplitl [H1]; · iexact H1
  isplitl [H2]; · iexact H2
  isplitl [H3]; · iexact H3
  isplitl [H4]; · iexists _; iexact H4
  isplitl [H6]; · iexact H6
  iintro ⟨H0, H1, H2, H3, H4, H6⟩
  isplitl [H6 Hsp]
  · isplitr [Hsp]
    · iexists _; isplitr
      swap; · iexact H6
      ipureintro; exact fun _ => xBlk_eq m c t
    iexact Hsp
  isplitl [Ho]; · iexact Ho
  isplitl [H0]; · iexact H0
  isplitl [H1]; · iexact H1
  isplitl [H2]; · iexact H2
  isplitl [H3]; · iexact H3
  iexact H4

theorem row0 (t : Fin cfg0.N) : defs₀ (F := F) .tc cfg0.body (cfg0.bodyArgs t (cfg0.slots t)) = bodyAt0 t := by
  unfold defs₀; rw [Defs.onTc_tc]

/-- The product's body, at every point. -/
theorem body0 (c : Dev nD) : BodyObligation (dat0 (F := F) m c) (defs₀ (F := F)) 𝒱₀ () Set.univ := fun t => by
  rw [bigSep_W0, bigSep_W0, row0]
  exact triple_restated (point_run m c t) rfl .rfl fun _ => .rfl

end Cert.KernelIdeal.Exchange

end
-- ==== Proof.Unroll.lean ====
/- The printed body of the exchange and the seven loops are one program. -/
module

public import proofs.«01_k».proof.Proof.Program

@[expose] public section

noncomputable section

namespace Cert.KernelIdeal.Exchange

open Idealize.ShloMosaic Idealize.ShloMosaic.TcCoe Idealize.SL.Sem Cert.KernelIdeal Cert.KernelIdeal.Gen

variable {F : FTy → Type} [FloatOps F]

/-- Two programs that perform one operation and then agree on every answer are one program. -/
theorem op_congr.{v} {E : Type → Type v} {α : Type} {R : Type} {e e' : E R} {k k' : R → Prog E α} (he : e = e') (hk : ∀ r, k r = k' r) :
    (Prog.op e k) = Prog.op e' k' := by
  subst he; exact congrArg _ (funext hk)

set_option maxRecDepth 100000 in
/-- The printed body is the exchange. -/
theorem body_eq : cc1_a2a_body yM (Memref.isWhole_whole _) outM (Memref.isWhole_whole _) rcvM (Memref.isWhole_whole _) stgM (Memref.isWhole_whole _)
    cc1_scratch2 cc1_scratch3 cc1_scratch4 = exchange (F := F) := by
  rw [cc1_a2a_body_eq_skeleton]
  unfold cc1_a2a_body_skel exchange
  simp only [k1_part1_eq_skeleton, k1_part1_skel, k1_part2_eq_skeleton, k1_part2_skel, k1_part3_eq_skeleton, k1_part3_skel, k1_part4_eq_skeleton, k1_part4_skel,
    k1_part5_eq_skeleton, k1_part5_skel, k1_part6_eq_skeleton, k1_part6_skel, k1_part7_eq_skeleton, k1_part7_skel, k1_part8_eq_skeleton, k1_part8_skel,
    k1_part9_eq_skeleton, k1_part9_skel, k1_part10_eq_skeleton, k1_part10_skel, k1_part11_eq_skeleton, k1_part11_skel, k1_part12_eq_skeleton, k1_part12_skel,
    k1_part13_eq_skeleton, k1_part13_skel, k1_part14_eq_skeleton, k1_part14_skel, k1_part15_eq_skeleton, k1_part15_skel, k1_part16_eq_skeleton, k1_part16_skel,
    k1_part17_eq_skeleton, k1_part17_skel, k1_part18_eq_skeleton, k1_part18_skel, k1_part19_eq_skeleton, k1_part19_skel, k1_part20_eq_skeleton, k1_part20_skel,
    k1_part21_eq_skeleton, k1_part21_skel, k1_part22_eq_skeleton, k1_part22_skel, k1_part23_eq_skeleton, k1_part23_skel, k1_part24_eq_skeleton, k1_part24_skel,
    k1_part25_eq_skeleton, k1_part25_skel, k1_part26_eq_skeleton, k1_part26_skel, k1_part27_eq_skeleton, k1_part27_skel, k1_part28_eq_skeleton, k1_part28_skel,
    k1_part29_eq_skeleton, k1_part29_skel, k1_part30_eq_skeleton, k1_part30_skel, k1_part31_eq_skeleton, k1_part31_skel, k1_part32_eq_skeleton, k1_part32_skel,
    k1_part33_eq_skeleton, k1_part33_skel, k1_part34_eq_skeleton, k1_part34_skel, k1_part35_eq_skeleton, k1_part35_skel, k1_part36_eq_skeleton, k1_part36_skel,
    k1_part37_eq_skeleton, k1_part37_skel, k1_part38_eq_skeleton, k1_part38_skel, k1_part39_eq_skeleton, k1_part39_skel, k1_part40_eq_skeleton, k1_part40_skel,
    k1_part41_eq_skeleton, k1_part41_skel, k1_part42_eq_skeleton, k1_part42_skel, k1_part43_eq_skeleton, k1_part43_skel, k1_part44_eq_skeleton, k1_part44_skel,
    k1_part45_eq_skeleton, k1_part45_skel,
    Prog.bind_lift, Prog.bind_op, Prog.bind_ret, Prog.pure_eq_ret, peers, slots, halves, each, signal, barrier, send, keep, take, outWait, sendWait,
    place, semSignalWord, semWaitWord]
  repeat' refine op_congr rfl fun _ => ?_
  rfl

end Cert.KernelIdeal.Exchange

end
-- ==== Proof.Talk.lean ====
/- The exchange's region: one grid point, whose body is the exchange. -/
module

public import proofs.«01_k».proof.Proof.Gemm
public import proofs.«01_k».proof.Proof.Unroll
public import Idealize.ShloMosaic.Lib.Pipeline.RegionTalk

@[expose] public section

set_option maxRecDepth 16384

noncomputable section

namespace Cert.KernelIdeal.Exchange

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The buffers between the regions -/

/-- A core's buffers after the product. -/
def U1 (c : Dev nD) : Valuation τ sig (Elt F) := Pipeline.afterRegion (dat0 m c) (V0 m c)

/-- The product each device stages for the exchange: the array the product's region left, read through the one block that is all of it. -/
def Ys : Prods F := fun c => ((cfg1.win 0).blk t1_0).view.read (Elt F) (U1 m c (Proc.devRef .tc main_v1))

/-- A core's buffers after the exchange. -/
def U2 (c : Dev nD) : Valuation τ sig (Elt F) := Function.update (U1 m c) (Proc.devRef .tc main_v2) (gathered (Ys m) c)

theorem U2_out (c : Dev nD) : U2 m c (Proc.devRef .tc main_v2) = gathered (Ys m) c := Function.update_self ..
theorem U2_of (c : Dev nD) {b : DevRef τ sig} (h : b ≠ Proc.devRef .tc main_v2) : U2 m c b = U1 m c b := Function.update_of_ne h ..

/-! ## The region's proof data -/

/-- The buffers of the product, which the exchange does not touch. -/
def spare1 (c : Dev nD) : sProp 𝕄 :=
  iprop(ptAny c cc0_stg0_0 ∗ ptAny c cc0_stg1_0 ∗ ptAny c cc0_stg1_1 ∗ ptAny c cc0_stg4_0 ∗ ptAny c cc0_stg4_1 ∗ ptAny c cc0_scratch0
    ∗ ptAny c cc0_stg2_0 ∗ ptAny c cc0_stg3_0)

/-- What a device brings to the exchange once its own counters are opened. -/
def ready (c : Dev nD) : sProp 𝕄 := iprop((∃ κ, ctx (Ys m) κ c ∗ at_ c 0 ∗ toks c) ∗ creds c)

/-- All of the counters back at zero. -/
def closed (c : Dev nD) : sProp 𝕄 := iprop(semVal (barCell c) 0 ∗ bigSep Finset.univ fun k : Fin 44 => semVal (ownCell c k) 0)

/-- What goes with it through the region besides the staged product: the landing slots, the widened blocks, the buffers left alone, the
    random-number register. -/
def beside (c : Dev nD) : sProp 𝕄 := iprop(ptAny c cc1_scratch0 ∗ ptAny c cc1_scratch1 ∗ spare1 c ∗ ∃ r, prngReg c r)

/-- The exchange's proof data: the staged product as it is; before the one point ready and owing, after it closed and owing nothing. -/
def dat1 (c : Dev nD) : Dat τ (Elt F) Unit ℕ UU ℕ cfg1 c where
  A w := U1 m c (Proc.devRef .tc (Pipeline.arrRef spec1 w))
  after w _ := match w with | ⟨0, _⟩ => Ys m c
  Φ t := if t.val = 0 then iprop(ready m c ∗ ptAny c main_v2 ∗ beside c) else iprop(closed c ∗ pt c main_v2 (gathered (Ys m) c) ∗ beside c)
  q _ := fullShare
  owed t := if t.val = 0 then O₀ c else 0

theorem A1_eq (c : Dev nD) (w : Fin cfg1.W) : (dat1 m c).A w = U1 m c (Proc.devRef .tc (Pipeline.arrRef spec1 w)) := by
  dsimp only [dat1]
theorem after1_0 (c : Dev nD) (t : Fin cfg1.N) : (dat1 m c).after 0 t = Ys m c := by dsimp only [dat1]

theorem before1_0 (c : Dev nD) (d) : (dat1 m c).before 0 t1_0 d = Ys m c := by
  rw [(dat1 m c).before_fetched 0 t1_0 (fetch1_0 _) d]
  unfold Dat.fetched Dat.blockOf Ys
  rw [A1_eq]
  rfl

theorem Φ1_first (c : Dev nD) : (dat1 m c).Φ t1_0.castSucc = iprop(ready m c ∗ ptAny c main_v2 ∗ beside c) := rfl
theorem Φ1_last (c : Dev nD) : (dat1 m c).Φ t1_0.succ = iprop(closed c ∗ pt c main_v2 (gathered (Ys m) c) ∗ beside c) := rfl
theorem owed1_first (c : Dev nD) : (dat1 m c).owed t1_0.castSucc = O₀ c := rfl
theorem owed1_last (c : Dev nD) : (dat1 m c).owed t1_0.succ = 0 := rfl

theorem owesAt_intro {cfg : Pipeline.Cfg sig Λ₀} {c : Dev nD} (dat : Dat τ (Elt F) Unit ℕ UU ℕ cfg c) (t : Fin (cfg.N + 1))
    {O : CellTallies nD τ sig Unit} (h : dat.owed t = O) (hr : dat.recorded t = Set.univ) (W : Waits sig Unit) :
    (owes (c : Thread nD τ) O W : sProp 𝕄) ⊢ dat.owesAt () t := by
  unfold Dat.owesAt Pipeline.owesWithin Dat.bound
  rw [h, hr]
  iintro H; iexists W; isplitr; · ipureintro; exact fun _ _ => Or.inl trivial
  iexact H
theorem owesAt_elim {cfg : Pipeline.Cfg sig Λ₀} {c : Dev nD} (dat : Dat τ (Elt F) Unit ℕ UU ℕ cfg c) (t : Fin (cfg.N + 1))
    {O : CellTallies nD τ sig Unit} (h : dat.owed t = O) : (dat.owesAt () t : sProp 𝕄) ⊢ iprop(∃ W, owes (c : Thread nD τ) O W) := by
  unfold Dat.owesAt Pipeline.owesWithin
  rw [h]
  iintro ⟨%W, -, H⟩; iexists W; iexact H

theorem row1 (t : Fin cfg1.N) : defs₀ (F := F) .tc cfg1.body (cfg1.bodyArgs t (cfg1.slots t)) = bodyAt1 t := by
  unfold defs₀; rw [Defs.onTc_tc]

theorem bodyAt1_eq : bodyAt1 (F := F) t1_0 = exchange := body_eq

/-- The staging buffer held at `f` is the staged window at `f`. -/
theorem staged_pt (c : Dev nD) (f : S512x8192.Idx → Elt F .bf16) : (owns (c : Thread nD τ) (st1_0 t1_0) fullShare f : sProp 𝕄) = pt c cc1_stg0_0 f :=
  owns_whole (c : Thread nD τ) cc1_stg0_0 fullShare f

/-- The exchange's body, at its one point. -/
theorem body1 (c : Dev nD) : BodyObligation (dat1 (F := F) m c) (defs₀ (F := F)) 𝒱₀ () Set.univ := fun t => by
  obtain rfl := fin_N1 t
  rw [bigSep_W1, bigSep_W1, row1, bodyAt1_eq]
  rw [Φ1_first, Φ1_last]
  iintro ⟨⟨Hr, Ho, Hb⟩, HO, ⟨%d, Hy⟩⟩
  ihave HO := (owesAt_elim (dat1 m c) _ (owed1_first m c)) $$ HO
  icases HO with ⟨%W, HO⟩
  rw [before1_0]
  ihave Hy := (Entails.of_eq (staged_pt c (Ys m c))) $$ Hy
  unfold ready beside
  icases Hr with ⟨⟨%κ, Hc, Ha, Ht⟩, Hcr⟩
  icases Hb with ⟨Hs0, Hs1, Hsp, Hp⟩
  iapply (exchange_run (Ys m) κ c W _)
  isplitl [Hc Ha Ht Hcr Hy Hs0 Hs1 Ho HO]
  · unfold exchangePre
    isplitl [Hc]; · iexact Hc
    isplitl [Ha]; · iexact Ha
    isplitl [Ht]; · iexact Ht
    isplitl [Hcr]; · iexact Hcr
    isplitl [Hy]; · iexact Hy
    isplitl [Hs0]; · iexact Hs0
    isplitl [Hs1]; · iexact Hs1
    isplitl [Ho] <;> iassumption
  unfold exchangePost closed
  iintro ⟨Hb, Hq, Hy, Hs0, Hs1, Ho, ⟨%W', HO⟩⟩
  isplitr [HO Hy]
  · isplitl [Hb Hq]; · isplitl [Hb] <;> iassumption
    isplitl [Ho]; · iexact Ho
    isplitl [Hs0]; · iexact Hs0
    isplitl [Hs1]; · iexact Hs1
    isplitl [Hsp] <;> iassumption
  isplitl [HO]; · iapply (owesAt_intro (dat1 m c) _ (owed1_last m c) rfl W'); iexact HO
  rw [after1_0]
  iapply (Entails.of_eq (staged_pt c (Ys m c)).symm); iexact Hy

/-! ## The two regions' data, and the regions -/

/-- The two regions' proof data. -/
def pdats : ∀ (p : Fin 2) (c : Dev nD), Dat τ (Elt F) Unit ℕ UU ℕ (Pipeline.pin (pcfgs (F := F)) adm p) c
  | 0 => dat0 m
  | 1 => dat1 m

/-- What a device keeps of the protocol until the exchange's region opens its own counters: the shared records, its barrier position, the
    right to open each counter of its own, the tokens of the deposits it makes, the credit for what it will wait for. -/
def Tk (c : Dev nD) : sProp 𝕄 :=
  iprop((∃ κ, records (Ys m) κ ∗ atPos ER (barCell c) 0 ∅ 0 ∗ (bigSep Finset.univ fun k : Fin 44 => openTok ER (ownCell c k)) ∗ toks c) ∗ creds c)

theorem ownSems1_eq (c : Dev nD) : (Pipeline.ownSems0 osem1 c : sProp 𝕄) = bigSep Finset.univ fun k : Fin 44 => semVal (ownCell c k) 0 := rfl

/-- The device's own counters opened: from the right to open each and its counter at zero, each one's position and that round 0 is
    reached. -/
theorem own_open (κ : GSem nD τ sig → ℕ) (c : Dev nD) :
    iprop(records (Ys m) κ ∗ bigSep Finset.univ fun k : Fin 44 => iprop(openTok ER (ownCell c k) ∗ semVal (ownCell c k) 0))
      ⊢ (|={Set.univ}=> bigSep Finset.univ fun k : Fin 44 => iprop(atPos ER (ownCell c k) 0 ∅ 0 ∗ reached ER (ownCell c k) 0) : sProp 𝕄) := by
  refine BIBase.Entails.trans (bigSep_with_persistent (R := records (Ys m) κ)
    (Ψ := fun k : Fin 44 => iprop(|={Set.univ}=> (atPos ER (ownCell c k) 0 ∅ 0 ∗ reached ER (ownCell c k) 0))) fun k _ => ?_) (bigSep_fupd _ _)
  iintro ⟨#HR, Ho, Hv⟩
  iapply (Rounds.cell_open ER (sched (Ys m)) (g := ownCell c k) (Set.mem_univ (κ (ownCell c k))))
  isplitr; · iapply (records_own (Ys m) κ c k); iexact HR
  isplitl [Ho] <;> iassumption

/-- The exchange's entry: with its own counters opened, a device is ready. -/
theorem hopen1 (c : Dev nD) : iprop(Tk m c ∗ Pipeline.ownSems0 osem1 c ∗ levAts L lv) ⊢ (|={Set.univ}=> ready m c : sProp 𝕄) := by
  rw [ownSems1_eq]
  unfold Tk ready
  iintro ⟨⟨⟨%κ, #HR, Hb, Ho, Ht⟩, Hc⟩, Hv, #Hlev⟩
  ihave Hov := (Entails.of_eq (bigSep_sep' Finset.univ (fun k : Fin 44 => (openTok ER (ownCell c k) : sProp 𝕄)) fun k => semVal (ownCell c k) 0).symm) $$ [Ho Hv]
  · isplitl [Ho] <;> iassumption
  imod (own_open m κ c) $$ [Hov] with H
  · isplitr; · iexact HR
    iexact Hov
  ihave H2 := (Entails.of_eq (bigSep_sep' Finset.univ (fun k : Fin 44 => (atPos ER (ownCell c k) 0 ∅ 0 : sProp 𝕄)) fun k => reached ER (ownCell c k) 0)) $$ H
  icases H2 with ⟨Ha, #Hr⟩
  imodintro
  isplitr [Hc]
  · iexists κ
    unfold ctx at_
    isplitr
    · isplitr; · iexact HR
      isplitr; · iexact Hr
      iexact Hlev
    isplitl [Hb Ha]; · isplitl [Hb] <;> iassumption
    iexact Ht
  iexact Hc

/-- The buffers of the exchange's region besides the staged product: its result. -/
abbrev outRef : Finset (DevRef τ sig) := {Proc.devRef .tc main_v2}

theorem held_out (c : Dev nD) (W : Valuation τ sig (Elt F)) :
    (StableHlo.held (c.tc : Thread nD τ) outRef W : sProp 𝕄) = pt c main_v2 (W (Proc.devRef .tc main_v2)) := by
  unfold StableHlo.held; rw [bigSep_singleton]

theorem scoped1 (c : Dev nD) : (Pipeline.scopedRest spec1 c : sProp 𝕄) ⊢ iprop(ptAny c cc1_scratch0 ∗ ptAny c cc1_scratch1 ∗ spare1 c) := by
  rw [scopedRest1_eq]; unfold spare1
  iintro ⟨H1, H2, H3, H4, H5, H6, H7, H8, H9, H10⟩
  isplitl [H7]; · iexact H7
  isplitl [H8]; · iexact H8
  isplitl [H1]; · iexact H1
  isplitl [H2]; · iexact H2
  isplitl [H3]; · iexact H3
  isplitl [H4]; · iexact H4
  isplitl [H5]; · iexact H5
  isplitl [H6]; · iexact H6
  isplitl [H9] <;> iassumption

theorem unscoped1 (c : Dev nD) : iprop(ptAny c cc1_scratch0 ∗ ptAny c cc1_scratch1 ∗ spare1 c) ⊢ (Pipeline.scopedRest spec1 c : sProp 𝕄) := by
  rw [scopedRest1_eq]; unfold spare1
  iintro ⟨H7, H8, H1, H2, H3, H4, H5, H6, H9, H10⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

theorem hin1 (c : Dev nD) : iprop(Pipeline.scopedRest spec1 c ∗ (∃ r, prngReg c r) ∗ StableHlo.held (c.tc : Thread nD τ) outRef (U1 m c) ∗ ready m c)
    ⊢ (dat1 m c).Φ 0 := by
  rw [show (dat1 m c).Φ 0 = iprop(ready m c ∗ ptAny c main_v2 ∗ beside c) from rfl, held_out]
  unfold beside
  iintro ⟨Hs, Hp, Ho, Hr⟩
  ihave Hs := (scoped1 (F := F) c) $$ Hs
  icases Hs with ⟨H0, H1, H2⟩
  isplitl [Hr]; · iexact Hr
  isplitl [Ho]; · iexists _; iexact Ho
  isplitl [H0]; · iexact H0
  isplitl [H1]; · iexact H1
  isplitl [H2] <;> iassumption

theorem hout1 (c : Dev nD) : (dat1 m c).Φ (Fin.last cfg1.N)
    ⊢ iprop(Pipeline.scopedRest spec1 c ∗ (∃ r, prngReg c r) ∗ StableHlo.held (c.tc : Thread nD τ) outRef (U2 m c) ∗ Pipeline.ownSems0 osem1 c
      ∗ semVal (barCell c) 0) := by
  rw [show (dat1 m c).Φ (Fin.last cfg1.N) = iprop(closed c ∗ pt c main_v2 (gathered (Ys m) c) ∗ beside c) from rfl, held_out, U2_out, ownSems1_eq]
  unfold beside closed
  iintro ⟨⟨Hb, Hq⟩, Ho, H0, H1, H2, Hp⟩
  isplitl [H0 H1 H2]
  · iapply (unscoped1 (F := F) c)
    isplitl [H0]; · iexact H0
    isplitl [H1] <;> iassumption
  isplitl [Hp]; · iexact Hp
  isplitl [Ho]; · iexact Ho
  isplitl [Hq] <;> iassumption

/-- What a device owes at launch is one signal to each other device's barrier and the payment of each landing slot it fills: cells of
    level 1 and 2. -/
theorem owed_cut (c : Dev nD) (g : GSem nD τ sig) (i : Unit) (h : 0 < O₀ c g i) : i ∈ L g ∧ 0 < lv g i := by
  unfold O₀ signalsOwed at h
  rw [Pi.add_apply, Finsupp.add_apply] at h
  rcases Nat.add_pos_iff_pos_or_pos.mp h with h | h
  · obtain ⟨k, -, hk⟩ := sum_pos _ _ _ _ h
    obtain rfl := tally_pos hk
    exact ⟨by rw [L_tc]; exact Finset.mem_singleton_self _, Nat.one_pos⟩
  · obtain ⟨k, rfl⟩ := sends_pos h
    exact ⟨by rw [L_tc]; exact Finset.mem_singleton_self _, by rw [lv_recv]; decide⟩

theorem owed_cut1 (c : Dev nD) (t : Fin (cfg1.N + 1)) (g : GSem nD τ sig) (i : Unit) (h : 0 < (dat1 m c).owed t g i) : i ∈ L g ∧ 0 < lv g i := by
  rw [show (dat1 m c).owed t = if t.val = 0 then O₀ c else 0 from rfl] at h
  split at h
  · exact owed_cut c g i h
  · exact absurd h (Nat.lt_irrefl 0)

/-- What rides past the product's region: the random-number register and what the exchange will need. -/
def rest (c : Dev nD) : sProp 𝕄 := iprop((∃ r, prngReg c r) ∗ Tk m c)

theorem hin0 (c : Dev nD) : iprop(Pipeline.scopedRest spec0 c ∗ emp) ⊢ (dat0 m c).Φ 0 := by
  rw [show (dat0 m c).Φ 0 = iprop(scratchAt m c 0 ∗ spare c) from rfl, scopedRest0_eq]
  unfold scratchAt spare
  iintro ⟨⟨⟨%z, Hz⟩, H1, H2, H3⟩, -⟩
  isplitl [Hz]
  · iexists z
    isplitr; · ipureintro; exact fun h => absurd rfl h
    rw [owns_whole]; iexact Hz
  isplitl [H1]; · iexact H1
  isplitl [H2] <;> iassumption

theorem hout0 (c : Dev nD) : (dat0 m c).Φ (Fin.last cfg0.N) ⊢ iprop(Pipeline.scopedRest spec0 c ∗ emp) := by
  rw [show (dat0 m c).Φ (Fin.last cfg0.N) = iprop(scratchAt m c cfg0.N ∗ spare c) from rfl, scopedRest0_eq]
  unfold scratchAt spare
  iintro ⟨⟨%z, -, Hz⟩, H1, H2, H3⟩
  isplitl
  · isplitl [Hz]
    · iexists z
      iapply (Entails.of_eq (owns_whole (c : Thread nD τ) cc0_scratch0 fullShare z)); iexact Hz
    isplitl [H1]; · iexact H1
    isplitl [H2] <;> iassumption
  iempintro

/-- The product's counters and the exchange's staging counter stand at the lowest level. -/
theorem stage_low0 : ∀ (w : Fin cfg0.W) (s : Fin (cfg0.win w).nbuf), (((cfg0.win w).sem s).val < 38) := by decide
theorem stage_low1 : ∀ (w : Fin cfg1.W) (s : Fin (cfg1.win w).nbuf), (((cfg1.win w).sem s).val < 38) := by decide

theorem lv_low (c : Dev nD) (s : Fin 52) (h : s.val < 38) : lv ((c : Thread nD τ), .dma s) () ≤ 0 := by
  show (if s.val < 38 then 0 else 2) ≤ 0
  rw [if_pos h]

set_option backward.isDefEq.respectTransparency.types false in
/-- The product's region: it owes nothing new, takes every buffer and gives it back with the product written. -/
def reg0 : Pipeline.RegionSeg (pcfgs (F := F)) adm (pdats m) () defs₀ 𝒱₀ L lv 0 :=
  Pipeline.RegionSeg.ofHeldIn (pcfgs (F := F)) adm (pdats m) () defs₀ 𝒱₀ L lv 0 O₀ (Pipeline.ucRefs τ sig) (fun _ => iprop(emp)) (fun _ => iprop(emp))
    launch0.toP rfl (fun c => (body0 m c).loose) (fun _ _ => rfl) (fun _ => rfl) (fun c => (dat0 m c).share_full fun _ => rfl)
    (hin0 m) (hout0 m) (fun _ => 0)
    ⟨fun c w s => by rw [L_tc]; exact Finset.mem_singleton_self _, fun c w s => lv_low c _ (stage_low0 w s), owed_cut⟩
    (rest m) (V0 m) (fun c w => (A0_eq m c w))

set_option backward.isDefEq.respectTransparency.types false in
/-- The exchange's region: it pays everything owed, and leaves the result. -/
def reg1 : Pipeline.RegionSeg (pcfgs (F := F)) adm (pdats m) () defs₀ 𝒱₀ L lv 1 :=
  Pipeline.RegionSeg.ofTalk (pcfgs (F := F)) adm (pdats m) () defs₀ 𝒱₀ L lv 1 osem1 (by decide : Pipeline.OwnSemFacts spec1 osem1)
    outRef (Pipeline.ucRefs τ sig \ Pipeline.arrRefs (τ := τ) spec1) (by decide) launch1.toP rfl (fun c => (body1 m c).loose)
    (fun _ => 0) O₀ (fun c => (zero_add _).symm) (fun _ => rfl) (fun _ => rfl) (fun c => (dat1 m c).share_full fun _ => rfl)
    (U1 m) (U2 m) (fun c b hb => U2_of m c fun e => (Finset.mem_sdiff.mp hb).2 (Finset.mem_singleton.mpr e))
    (Tk m) (fun c => semVal (barCell c) 0) (ready m) (fun c => semVal (barCell c) 0) (hopen1 m) (hin1 m) (hout1 m)
    (fun c => by iintro H; imodintro; iexact H)
    (fun _ => 0)
    ⟨fun c w s => by rw [L_tc]; exact Finset.mem_singleton_self _, fun c w s => lv_low c _ (stage_low1 w s), owed_cut1 m⟩
    (fun _ => iprop(emp))
    (fun c w => A1_eq m c w)
    (fun c w => by
      fin_cases w
      exact ((dat1 m c).arrAt_in 0 rfl _).trans ((A1_eq m c 0).trans (U2_of m c (by decide)).symm))

end Cert.KernelIdeal.Exchange

end
-- ==== Proof.Launch.lean ====
/- The launch of the two regions on every device, and what the whole run leaves. -/
module

public import proofs.«01_k».proof.Proof.Talk
public import Idealize.ShloMosaic.Lib.Quiescent

@[expose] public section

set_option maxRecDepth 16384

noncomputable section

namespace Cert.KernelIdeal.Exchange

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ

/-! ## Families over all devices -/

theorem slots_all : (Finset.univ : Finset Slot) = slots.toFinset := (Finset.eq_univ_iff_forall.mpr fun k => List.mem_toFinset.mpr (slots_mem k)).symm
theorem peers_all : (Finset.univ : Finset (Fin 7)) = peers.toFinset := (Finset.eq_univ_iff_forall.mpr fun k => List.mem_toFinset.mpr (peers_mem k)).symm

/-- A list of resources on every device is a list of resources, each on every device. -/
theorem every_list {α : Type} (l : List α) (Φ : Dev nD → α → sProp 𝕄) :
    (bigSep Finset.univ fun c => bigSepL l (Φ c)) = bigSepL l fun a => bigSep Finset.univ fun c => Φ c a := by
  induction l with
  | nil => exact bigSep_emp_const _
  | cons a l ih =>
    rw [bigSepL_cons', ← ih, ← bigSep_sep']
    exact bigSep_congr fun c _ => bigSepL_cons' ..

/-- The devices moved on by a distance. -/
def ring (k : Fin 7) : Dev nD ≃ Dev nD := ⟨fun c => up c k, fun c => dn c k, fun c => dn_up c k, fun c => up_dn c k⟩

/-- So one resource per entry can be counted at each device, or at the device each entry's distance further on. -/
theorem every_moved {α : Type} (l : List α) (f : α → Fin 7) (Φ : Dev nD → α → sProp 𝕄) :
    (bigSep Finset.univ fun c => bigSepL l (Φ c)) = bigSep Finset.univ fun c => bigSepL l fun a => Φ (up c (f a)) a := by
  rw [every_list, every_list]
  exact congrArg (bigSepL l) (funext fun a => bigSep_univ_equiv (ring (f a)) fun c => Φ c a)

/-! ## The tokens -/

def barTok : Dev nD × Fin 7 ↪ GSem nD τ sig × ℕ × Fin 7 :=
  ⟨fun x => (barCell x.1, 0, x.2), fun _ _ h =>
    Prod.ext (congrArg (fun t : GSem nD τ sig × ℕ × Fin 7 => t.1.1.1) h) (congrArg (fun t : GSem nD τ sig × ℕ × Fin 7 => t.2.2) h)⟩
def ownTok : Dev nD × Fin 44 ↪ GSem nD τ sig × ℕ × Fin 7 :=
  ⟨fun x => (ownCell x.1 x.2, 0, 0), fun _ _ h => ownEmb.injective (congrArg Prod.fst h)⟩

/-- Every deposit of the exchange: seven signals at each barrier, one payment at each other counter. -/
def allToks : Finset (GSem nD τ sig × ℕ × Fin 7) := Finset.univ.map barTok ∪ Finset.univ.map ownTok

theorem toks_disjoint : Disjoint (Finset.univ.map barTok) (Finset.univ.map ownTok) := by
  rw [Finset.disjoint_left]
  rintro t h₁ h₂
  obtain ⟨x, -, rfl⟩ := Finset.mem_map.mp h₁
  obtain ⟨y, -, h⟩ := Finset.mem_map.mp h₂
  exact osem1_ne_bar y.2 (congrArg (fun t : GSem nD τ sig × ℕ × Fin 7 => t.1.2) h)

/-- The signals' tokens, handed to the devices that signal. -/
theorem bar_toks : (bigSep (Finset.univ.map barTok) fun t => (dutyTok ER t.1 t.2.1 t.2.2 : sProp 𝕄))
    = bigSep Finset.univ fun c : Dev nD => bigSepL peers fun k => dutyTok ER (barCell (up c k)) 0 k.rev := by
  rw [bigSep_map, bigSep_univ_prod]
  refine Eq.trans (bigSep_congr fun c _ => ?_) (every_moved peers id fun c k => (dutyTok ER (barCell c) 0 k.rev : sProp 𝕄))
  rw [← bigSep_univ_eq_bigSepL peers peers_all peers_nodup]
  exact bigSep_univ_equiv Fin.revPerm fun k : Fin 7 => (dutyTok ER (barCell c) 0 k : sProp 𝕄)

/-- The payments' tokens: a copy's at its own device, a transfer's landing at the device that sends. -/
theorem own_toks : (bigSep (Finset.univ.map ownTok) fun t => (dutyTok ER t.1 t.2.1 t.2.2 : sProp 𝕄))
    = bigSep Finset.univ fun c : Dev nD => iprop(bigSepL slots (fun k => dutyTok ER (outCell c k.blk) 0 0)
        ∗ bigSepL halves (fun h => dutyTok ER (outCell c (own h)) 0 0)
        ∗ bigSepL slots (fun k => dutyTok ER (sendCell c k) 0 0) ∗ bigSepL slots (fun k => dutyTok ER (recvCell (up c k.1) k) 0 0)) := by
  rw [bigSep_map, bigSep_univ_prod, bigSep_sep', bigSep_sep', bigSep_sep', ← every_moved slots Prod.fst fun c k => (dutyTok ER (recvCell c k) 0 0 : sProp 𝕄),
    ← bigSep_sep', ← bigSep_sep', ← bigSep_sep']
  refine bigSep_congr fun c _ => ?_
  simp only [outCell_eq, sendCell_eq, recvCell_eq]
  exact own_split fun k => (dutyTok ER (ownCell c k) 0 0 : sProp 𝕄)

/-- All the tokens, dealt. -/
theorem toks_dealt : (bigSep allToks fun t => (dutyTok ER t.1 t.2.1 t.2.2 : sProp 𝕄)) = bigSep Finset.univ fun c : Dev nD => toks c := by
  unfold allToks toks
  rw [bigSep_union toks_disjoint, bar_toks, own_toks]
  exact (bigSep_sep' _ _ _).symm

/-! ## The credit -/

/-- What a list of tallies comes to at one counter. -/
theorem sum_at {α : Type} (l : List α) (f : α → CellTallies nD τ sig Unit) (g : GSem nD τ sig) :
    (l.map f).sum g () = (l.map fun a => f a g ()).sum := by
  induction l with
  | nil => rfl
  | cons a l ih => rw [List.map_cons, List.sum_cons, List.map_cons, List.sum_cons, ← ih]; rfl

theorem sends_at (d : Dev nD) (g : GSem nD τ sig) : sendsOwed d slots g () = ∑ k : Slot, sendTally d k g () := by
  unfold sendsOwed
  rw [sum_at, slots_all, List.sum_toFinset _ slots_nodup]
theorem owed_at (d : Dev nD) (g : GSem nD τ sig) :
    O₀ d g () = (∑ k : Fin 7, sigTally d k g ()) + ∑ k : Slot, sendTally d k g () := by
  unfold O₀ signalsOwed
  rw [Pi.add_apply, Finsupp.add_apply, sends_at, sum_at, peers_all, List.sum_toFinset _ peers_nodup]

theorem bar_ne_recv (c d : Dev nD) (k : Slot) : recvCell d k ≠ barCell c := fun h => by cases congrArg Prod.snd h
theorem bar_inj {c d : Dev nD} : barCell c = barCell d ↔ c = d :=
  ⟨fun h => congrArg (fun g : GSem nD τ sig => g.1.1) h, fun h => h ▸ rfl⟩
theorem pos_inj : ∀ k j : Slot, k.pos = j.pos → k = j := by decide +kernel
theorem recv_inj {c d : Dev nD} {k j : Slot} : recvCell c k = recvCell d j ↔ c = d ∧ k = j :=
  ⟨fun h => ⟨congrArg (fun g : GSem nD τ sig => g.1.1) h, by
    rw [recvCell_eq, recvCell_eq] at h
    have h2 : recvNo k = recvNo j := osem1_inj (congrArg Prod.snd h)
    refine pos_inj k j (Fin.ext ?_)
    have h3 := congrArg Fin.val h2
    simp only [recvNo] at h3
    omega⟩, fun ⟨h1, h2⟩ => by rw [h1, h2]⟩

/-- Over all devices, a tally that each pays at the device a distance further on comes to one payment. -/
theorem sum_moved (k : Fin 7) (c : Dev nD) (N : ℕ) : (∑ d : Dev nD, if c = up d k then N else 0) = N := by
  rw [Finset.sum_congr rfl fun d _ => if_congr (show c = up d k ↔ dn c k = d from ⟨fun h => by rw [h, dn_up], fun h => by rw [← h, up_dn]⟩) rfl rfl,
    Finset.sum_ite_eq, if_pos (Finset.mem_univ _)]

theorem owed_bar (c : Dev nD) : (∑ d : Dev nD, O₀ d (barCell c) ()) = 7 := by
  have h (d : Dev nD) : O₀ d (barCell c) () = ∑ k : Fin 7, if c = up d k then 1 else 0 := by
    rw [owed_at, Finset.sum_eq_zero (s := Finset.univ) (f := fun k : Slot => sendTally d k (barCell c) ()) fun k _ => by
      unfold sendTally; rw [tallyAt_ne_cell fun e => bar_ne_recv _ _ _ e.symm]; rfl, Nat.add_zero]
    refine Finset.sum_congr rfl fun k _ => ?_
    rw [tallyAt_apply]
    exact if_congr (by rw [bar_inj]; exact and_iff_left rfl) rfl rfl
  rw [Finset.sum_congr rfl fun d _ => h d, Finset.sum_comm, Finset.sum_congr rfl fun k _ => sum_moved k c 1]
  rfl

theorem owed_recv (c : Dev nD) (j : Slot) : (∑ d : Dev nD, O₀ d (recvCell c j) ()) = NB := by
  have h (d : Dev nD) : O₀ d (recvCell c j) () = ∑ k : Slot, if k = j then (if c = up d k.1 then NB else 0) else 0 := by
    rw [owed_at, Finset.sum_eq_zero (s := Finset.univ) (f := fun k : Fin 7 => sigTally d k (recvCell c j) ()) fun k _ => by
      unfold sigTally; rw [tallyAt_ne_cell fun e => bar_ne_recv _ _ _ e]; rfl, Nat.zero_add]
    refine Finset.sum_congr rfl fun k _ => ?_
    rw [tallyAt_apply, ← ite_and]
    exact if_congr (by rw [recv_inj]; exact ⟨fun e => ⟨e.1.2.symm, e.1.1⟩, fun e => ⟨⟨e.2, e.1.symm⟩, rfl⟩⟩) rfl rfl
  rw [Finset.sum_congr rfl fun d _ => h d, Finset.sum_comm, Finset.sum_eq_single j, Finset.sum_congr rfl fun d _ => if_pos rfl]
  · exact sum_moved j.1 c NB
  · exact fun k _ hk => Finset.sum_eq_zero fun d _ => if_neg hk
  · exact fun h => absurd (Finset.mem_univ j) h

/-- What every device owes a counter is the credit its owner holds. -/
theorem credit_at (g : GSem nD τ sig) (N : ℕ) (h : (∑ d : Dev nD, O₀ d g ()) = N) :
    tallyOn g (launchCredit (Pipeline.owing O₀) 0 g) = (tallyAt g () N : CellTallies nD τ sig Unit) := by
  unfold tallyAt; refine congrArg _ (Finsupp.ext fun u => ?_); cases u
  rw [Pipeline.launchCredit_owing, Finsupp.single_eq_same, h]

def recvSem : Slot ↪ SemLoc sig := ⟨fun k => .dma (recvS k.pos), fun k j h => (recv_inj (c := 0) (d := 0)).mp (congrArg (fun s => (((0 : Dev nD) : Thread nD τ), s)) h) |>.2⟩

/-- The launch's credit: seven signals at a device's barrier, one landing at each of its slots. -/
theorem launch_creds (c : Dev nD) : (Pipeline.launchCred O₀ c : sProp 𝕄) ⊢ creds c := by
  unfold Pipeline.launchCred creds
  rw [bigSep_univ_at _ (SemLoc.reg barS), credit_at _ 7 (owed_bar c)]
  refine sep_mono_right (BIBase.Entails.trans (bigSep_subset (t := Finset.univ.map recvSem) fun s hs => ?_) (Entails.of_eq ?_))
  · obtain ⟨k, -, rfl⟩ := Finset.mem_map.mp hs
    exact Finset.mem_erase.mpr ⟨fun h => (by cases h), Finset.mem_univ _⟩
  · rw [bigSep_map, ← bigSep_univ_eq_bigSepL slots slots_all slots_nodup]
    exact bigSep_congr fun k _ => congrArg cred (credit_at (recvCell c k) NB (owed_recv c k))

/-! ## The launch state -/

/-- The launch's ghost state: the pipelines' staging protocol, the exchange's. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- The exchange's share of it, kept in one place until every device's counters can be dealt together. -/
def seed : sProp 𝕄 := BI.own (ER (launchOf barCells ownCells allToks))
def G (c : Dev nD) : sProp 𝕄 := if c = 0 then seed else iprop(emp)
theorem G_all : bigSep Finset.univ (G (F := F)) = seed := by
  rw [bigSep_univ_at _ (0 : Dev nD), bigSep_congr (s := Finset.univ.erase 0) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

/-- What the one launch step deals to a device. -/
def dealt (c : Dev nD) : sProp 𝕄 :=
  iprop(atPos ER (barCell c) 0 ∅ 0 ∗ (bigSep Finset.univ fun k : Fin 44 => openTok ER (ownCell c k)) ∗ toks c)

theorem dealt_all : (bigSep Finset.univ fun c : Dev nD => (dealt c : sProp 𝕄))
    = iprop((bigSep Finset.univ fun c : Dev nD => atPos ER (barCell c) 0 ∅ 0)
      ∗ (bigSep Finset.univ fun c : Dev nD => bigSep Finset.univ fun k : Fin 44 => openTok ER (ownCell c k))
      ∗ bigSep Finset.univ fun c : Dev nD => toks c) := by
  unfold dealt
  rw [bigSep_sep', bigSep_sep']

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

variable (m : (ℓ : Loc nD τ sig) → Buf (Elt F) ℓ) (ρ : Dev nD → PrngReg)

/-- The launch step: from the barriers at zero and the seed, the shared records and every device's share. -/
theorem deal : iprop((bigSep Finset.univ fun c : Dev nD => semVal (barCell c) 0) ∗ seed)
    ⊢ (|={Set.univ}=> ∃ κ, records (Ys m) κ ∗ bigSep Finset.univ fun c : Dev nD => dealt c : sProp 𝕄) := by
  iintro ⟨Hv, Hu⟩
  unfold seed
  ihave Hv := (show (bigSep Finset.univ fun c : Dev nD => (semVal (barCell c) 0 : sProp 𝕄)) ⊢ bigSep barCells fun g => semVal g 0 from
    Entails.of_eq (bigSep_map (s := Finset.univ) barEmb (Φ := fun g : GSem nD τ sig => (semVal g 0 : sProp 𝕄))).symm) $$ Hv
  imod (Rounds.fund_launch ER (sched (Ys m)) disjoint_cells (fun g _ h => h) allToks) $$ [Hv Hu] with ⟨%κ, -, #Hinv, #Hr, Hat, Hopen, Htok⟩
  · isplitl [Hv] <;> iassumption
  imodintro
  iexists κ
  isplitr
  · unfold records
    isplitr; · iexact Hinv
    iexact Hr
  iapply (Entails.of_eq (dealt_all (F := F)).symm)
  isplitl [Hat]
  · iapply (Entails.of_eq (bigSep_map (s := Finset.univ) barEmb (Φ := fun g : GSem nD τ sig => (atPos ER g 0 ∅ 0 : sProp 𝕄)))); iexact Hat
  isplitl [Hopen]
  · iapply (Entails.of_eq ((bigSep_map (s := Finset.univ) ownEmb (Φ := fun g : GSem nD τ sig => (openTok ER g : sProp 𝕄))).trans (bigSep_univ_prod _)))
    iexact Hopen
  iapply (Entails.of_eq (toks_dealt (F := F))); iexact Htok

/-- A device's buffers, held at a valuation. -/
abbrev bufs (c : Dev nD) (W : Valuation τ sig (Elt F)) : sProp 𝕄 := StableHlo.held (c : Thread nD τ) (Pipeline.ucRefs τ sig) W

/-- Each device's state at launch, before the product. -/
abbrev T₀ (c : Dev nD) : sProp 𝕄 := iprop(bufs c (V0 m c) ∗ ((∃ Wd, owes (c : Thread nD τ) (O₀ c) Wd) ∗ emp ∗ rest m c))
/-- Each device's state at the end, besides that it owes nothing. -/
abbrev Tₙ (c : Dev nD) : sProp 𝕄 := iprop(bufs c (U2 m c) ∗ semVal (barCell c) 0)

/-- What of a device's launch holdings needs no dealing. -/
def plain (c : Dev nD) : sProp 𝕄 :=
  iprop(bufs c (V0 m c) ∗ owes (c : Thread nD τ) (O₀ c) ∅ ∗ creds c ∗ ∃ r, prngReg c r)

theorem T₀_intro (κ : GSem nD τ sig → ℕ) (c : Dev nD) : iprop(records (Ys m) κ ∗ (plain m c ∗ dealt c)) ⊢ T₀ m c := by
  unfold T₀ plain dealt rest Tk
  iintro ⟨#HR, ⟨Hb, HO, Hc, Hp⟩, Hd⟩
  isplitl [Hb]; · iexact Hb
  isplitl [HO]; · iexists ∅; iexact HO
  isplitr; · iempintro
  isplitl [Hp]; · iexact Hp
  isplitr [Hc]
  · iexists κ
    isplitr; · iexact HR
    iexact Hd
  iexact Hc

/-- The launch, on all devices at once. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(plain m c ∗ (semVal (barCell c) 0 ∗ G c)) : sProp 𝕄) := by
    rw [show unscopedBufs c (fun b => m ((c : Thread nD τ).loc b)) = bufs c (V0 m c) from Pipeline.unscopedBufs_held c (V0 m c), unscopedSems0_eq]
    unfold plain
    iintro ⟨Hh, Hus, HO, Hcr, Hp, HG⟩
    isplitl [Hh HO Hcr Hp]
    · isplitl [Hh]; · iexact Hh
      isplitl [HO]; · iexact HO
      isplitl [Hcr]; · iapply (launch_creds (F := F) c); iexact Hcr
      iexists (ρ c); iexact Hp
    isplitl [Hus] <;> iassumption
  have hend : (bigSep Finset.univ fun c : Dev nD => iprop(plain m c ∗ (semVal (barCell c) 0 ∗ G c)))
      = iprop((bigSep Finset.univ fun c : Dev nD => plain m c) ∗ (bigSep Finset.univ fun c : Dev nD => (semVal (barCell c) 0 : sProp 𝕄)) ∗ seed) := by
    rw [bigSep_sep', bigSep_sep', G_all]
  have hall := BIBase.Entails.trans (bigSep_mono (s := Finset.univ) fun (c : Dev nD) _ => hcore c) (Entails.of_eq hend)
  iintro ⟨H, -⟩
  ihave H := hall $$ H
  icases H with ⟨HB, Hd⟩
  imod (deal m) $$ Hd with ⟨%κ, #HR, Hd⟩
  imodintro
  iapply (bigSep_with_persistent (R := records (Ys m) κ) (Φ := fun c => iprop(plain m c ∗ dealt c)) fun c _ => T₀_intro m κ c)
  isplitr; · iexact HR
  rw [bigSep_sep']
  isplitl [HB] <;> iassumption

/-! ## The run -/

/-- The program's two regions. -/
abbrev segs : List (Pipeline.Seg (pcfgs (F := F)) adm (pdats m) () defs₀ 𝒱₀ L lv) := [.region (reg0 m), .region (reg1 m)]

theorem arr0_sub : Pipeline.arrRefs (τ := τ) spec0 ⊆ Pipeline.ucRefs τ sig := by decide
theorem arr1_sub : Pipeline.arrRefs (τ := τ) spec1 ⊆ Pipeline.ucRefs τ sig := by decide

theorem reg0_pre (c : Dev nD) : T₀ m c ⊢ (reg0 m).pre c := by
  show _ ⊢ iprop(StableHlo.held (c.tc : Thread nD τ) (Pipeline.arrRefs (τ := τ) spec0) (V0 m c) ∗ emp
    ∗ (StableHlo.held (c.tc : Thread nD τ) (Pipeline.ucRefs τ sig \ Pipeline.arrRefs (τ := τ) spec0) (V0 m c) ∗ rest m c)
    ∗ ∃ Wd, owes (c : Thread nD τ) (O₀ c) Wd)
  unfold T₀ bufs
  rw [StableHlo.held_sub_split (c.tc : Thread nD τ) arr0_sub (V0 m c)]
  iintro ⟨⟨Ha, Hb⟩, HO, -, HR⟩
  isplitl [Ha]; · iexact Ha
  isplitr; · iempintro
  isplitl [Hb HR]; · isplitl [Hb] <;> iassumption
  iexact HO

/-- Between the regions: the product's region leaves what the exchange's asks for. -/
theorem reg0_reg1 (c : Dev nD) : (reg0 m).post c ⊢ (reg1 m).pre c := by
  show iprop(StableHlo.held (c.tc : Thread nD τ) (Pipeline.arrRefs (τ := τ) spec0) (U1 m c) ∗ emp
      ∗ (StableHlo.held (c.tc : Thread nD τ) (Pipeline.ucRefs τ sig \ Pipeline.arrRefs (τ := τ) spec0) (V0 m c) ∗ rest m c)
      ∗ ∃ Wd, owes (c : Thread nD τ) (O₀ c) Wd)
    ⊢ iprop(StableHlo.held (c.tc : Thread nD τ) (Pipeline.arrRefs (τ := τ) spec1) (U1 m c) ∗ (∃ r, prngReg c r)
      ∗ (StableHlo.held (c.tc : Thread nD τ) (Pipeline.ucRefs τ sig \ Pipeline.arrRefs (τ := τ) spec1) (U1 m c) ∗ emp) ∗ Tk m c
      ∗ ∃ Wd, owes (c : Thread nD τ) (0 + O₀ c) Wd)
  rw [zero_add, ← StableHlo.held_congr (c.tc : Thread nD τ) (V := U1 m c) (V' := V0 m c)
    (Pipeline.afterRegion_off (dat0 m c) (V0 m c) (Pipeline.ucRefs τ sig))]
  have split0 := StableHlo.held_sub_split (Ix := Unit) (Name := ℕ) (U := UU) (Lvl := ℕ) (c.tc : Thread nD τ) arr0_sub (U1 m c)
  have split1 := StableHlo.held_sub_split (Ix := Unit) (Name := ℕ) (U := UU) (Lvl := ℕ) (c.tc : Thread nD τ) arr1_sub (U1 m c)
  unfold rest
  iintro ⟨Ha, -, ⟨Hb, Hp, HT⟩, HO⟩
  ihave Hall := (Entails.of_eq split0.symm) $$ [Ha Hb]
  · isplitl [Ha] <;> iassumption
  ihave Hall := (Entails.of_eq split1) $$ Hall
  icases Hall with ⟨Ha, Hb⟩
  isplitl [Ha]; · iexact Ha
  isplitl [Hp]; · iexact Hp
  isplitl [Hb]
  · isplitl [Hb]; · iexact Hb
    iempintro
  isplitl [HT] <;> iassumption

theorem reg1_post (c : Dev nD) : (reg1 m).post c
    ⊢ iprop(Tₙ m c ∗ ∃ W, owes (c : Thread nD τ) (0 : CellTallies nD τ sig Unit) W) := by
  show iprop(StableHlo.held (c.tc : Thread nD τ) (Pipeline.arrRefs (τ := τ) spec1) (U2 m c) ∗ (∃ r, prngReg c r)
      ∗ (StableHlo.held (c.tc : Thread nD τ) (Pipeline.ucRefs τ sig \ Pipeline.arrRefs (τ := τ) spec1) (U2 m c) ∗ emp) ∗ semVal (barCell c) 0
      ∗ ∃ Wd, owes (c : Thread nD τ) (0 : CellTallies nD τ sig Unit) Wd) ⊢ _
  unfold Tₙ bufs
  rw [StableHlo.held_sub_split (c.tc : Thread nD τ) arr1_sub (U2 m c)]
  iintro ⟨Ha, -, ⟨Hb, -⟩, Hv, HO⟩
  isplitr [HO]
  · isplitl [Ha Hb]; · isplitl [Ha] <;> iassumption
    iexact Hv
  iexact HO

theorem unscoped_bar : ∀ sm : SemLoc sig, sm.isScoped .tc = false → sm = .reg barS := by decide

/-- Each device's end, read off the final memory: its buffers at the last valuation, its barrier at zero. -/
theorem read_end (c : Dev nD) (s' : Phys nD τ sig (Elt F)) : iprop(Tₙ m c ∗ SI s')
    ⊢ (|={Set.univ}=> iprop(⌜(∀ b ∈ Pipeline.ucRefs τ sig, s'.mem.mem (c, b) = U2 m c b) ∧ s'.mem.sem (barCell c) = 0⌝ ∗ SI s') : sProp 𝕄) := by
  unfold Tₙ bufs StableHlo.held
  iintro ⟨⟨Hh, Hb⟩, HSI⟩
  icombine HSI Hb gives %hb
  ihave Hr := (pointsTo_read_all (Pipeline.ucRefs τ sig) (fun b => ((c : Thread nD τ).1, b)) (U2 m c) s') $$ [Hh HSI]
  · isplitl [Hh] <;> iassumption
  icases Hr with ⟨%h, HSI⟩
  imodintro
  isplitr
  · ipureintro
    exact ⟨h, by simpa using hb⟩
  iexact HSI

/-- The buffers the product's region does not write keep their contents. -/
theorem U1_of (c : Dev nD) (r : Ref sig .tc) (h : r ≠ main_v1) : U1 m c (Proc.devRef .tc r) = V0 m c (Proc.devRef .tc r) :=
  Pipeline.afterRegion_keeps (dat0 m c) (V0 m c) winFacts0.arr_inj (A0_eq m c) r fun w e => by
    fin_cases w
    · rfl
    · rfl
    · rfl
    · rfl
    · exact absurd e.symm h

theorem uc_mem (r : Ref sig .tc) (h : ¬ (Proc.devRef (τ := τ) .tc r).isScoped) : Proc.devRef .tc r ∈ Pipeline.ucRefs τ sig :=
  Finset.mem_filter.mpr ⟨StableHlo.devRef_mem_tcRefs r, h⟩

set_option backward.isDefEq.respectTransparency.types false in
/-- The whole run, from any memory with all counters at zero: every execution ends without fault, with every buffer of every device at the
    last valuation and every counter at zero. -/
theorem run_main : θ_run defs (onTc (τ := τ) (main (F := F))) ⟨m, fun _ => 0, ρ⟩
    (fun r => (∀ c : Dev nD, ∀ b ∈ Pipeline.ucRefs τ sig, r.2.mem (c, b) = U2 m c b) ∧ r.2.sem = fun _ => 0) :=
  Pipeline.θ_run_regions_kit_sems (pcfgs (F := F)) adm (pdats m) () cellOf_inj EP defs₀ 𝒱₀ L lv m ρ main (segs m)
    (fun c Q => by
      rewrite [main_chain c, Pipeline.Seg.run_eq_chain,
        show (segs m).map Pipeline.Seg.prog = [Prog.lift (.customCall (Pipeline.entry 0) ()), Prog.lift (.customCall (Pipeline.entry 1) ())] from rfl]
      dsimp (config := { failIfUnchanged := false }) only
      exact .rfl)
    (by simp only [segs, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; unfold seed; iexact HX)
    (T₀ := T₀ m) (Tₙ := Tₙ m)
    (hch := ⟨fun c => reg0_pre m c, fun c => reg0_reg1 m c, fun c => reg1_post m c⟩)
    (hinit := init m ρ)
    (QY := fun c s => (∀ b ∈ Pipeline.ucRefs τ sig, s.mem (c, b) = U2 m c b) ∧ s.sem (barCell c) = 0)
    (hfin := read_end m)
    (hQ := fun s h hs => ⟨fun c => (h c).1,
      sem_eq_zero hs fun c sm hsm => by
        obtain rfl := unscoped_bar sm hsm
        exact (h c).2⟩)

/-- So every argument ends as it was, the result holds the gathered product, and every counter is zero. -/
theorem run_values : θ_run defs (onTc (τ := τ) (main (F := F))) ⟨m, fun _ => 0, ρ⟩
    (fun r => (∀ c : Dev nD,
        (r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3))
        ∧ r.2.mem ((c.tc : Thread nD τ).loc main_v2) = gathered (Ys m) c) ∧ r.2.sem = fun _ => 0) := by
  have keep (c : Dev nD) (r : Ref sig .tc) (h1 : r ≠ main_v1) (h2 : Proc.devRef (τ := τ) .tc r ≠ Proc.devRef .tc main_v2) :
      U2 m c (Proc.devRef .tc r) = m ((c.tc : Thread nD τ).loc r) := (U2_of m c h2).trans (U1_of m c r h1)
  refine (θ_run defs _ _).mono (fun r h => ⟨fun c => ⟨⟨?_, ?_, ?_, ?_⟩, ?_⟩, h.2⟩) (run_main m ρ)
  · exact (h.1 c _ (uc_mem main_arg0 (by decide))).trans (keep c main_arg0 (by decide) (by decide))
  · exact (h.1 c _ (uc_mem main_arg1 (by decide))).trans (keep c main_arg1 (by decide) (by decide))
  · exact (h.1 c _ (uc_mem main_arg2 (by decide))).trans (keep c main_arg2 (by decide) (by decide))
  · exact (h.1 c _ (uc_mem main_arg3 (by decide))).trans (keep c main_arg3 (by decide) (by decide))
  · exact (h.1 c _ (uc_mem main_v2 (by decide))).trans (U2_out m c)

/-- The frame alone. -/
theorem run_frame : θ_run defs (onTc (τ := τ) (main (F := F))) ⟨m, fun _ => 0, ρ⟩
    (fun r => (∀ c : Dev nD,
        r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)) ∧ r.2.sem = fun _ => 0) :=
  (θ_run defs _ _).mono (fun _ h => ⟨fun c => (h.1 c).1, h.2⟩) (run_values m ρ)

end Cert.KernelIdeal.Exchange

end
-- ==== Proof.Value.lean ====
/- What the kernel's first region leaves, at the ideal instance: the scaled product of the device's rows, entry by entry. -/
module

public import proofs.«01_k».proof.Proof.Launch
public import Idealize.ShloMosaic.Lib.Pipeline.ValueKit

@[expose] public section

set_option maxRecDepth 16384

noncomputable section

namespace Cert.KernelIdeal.Exchange

open Idealize.ShloMosaic Idealize.ShloMosaic.TcCoe Idealize.SL.Sem
open Idealize.ShloMosaic.Pipeline (Dat)
open Cert.KernelIdeal Cert.KernelIdeal.Gen

/-- The scaled product of a device's rows with the whole right-hand side. -/
def scaled (x : FVec Ideal S512x4096 .fp8e5m2) (w : FVec Ideal S4096x8192 .fp8e5m2) (sx sw : FVec Ideal S1 .f32) :
    FVec Ideal S512x8192 .bf16 := fun i =>
  ((∑ k : Fin 4096, x (ix2 (i 0) k) * w (ix2 k (i 1)) : EReal) * (sx (ix1 0) * sw (ix1 0)) : EReal)

/-- Which block of its array each window shows at each point. -/
theorem index0 : ∀ t : Fin cfg0.N, win0_0.index t = ![0, 0] ∧ win0_1.index t = ![0, t.val] ∧ win0_2.index t = ![0]
    ∧ win0_3.index t = ![0] ∧ win0_4.index t = ![0, t.val] := (by decide +kernel : ∀ t : Fin grid0.N, _)

/-- The exchange's one block is the whole array. -/
theorem index1 : ∀ t : Fin cfg1.N, win1_0.index t = ![0, 0] := (by decide +kernel : ∀ t : Fin grid1.N, _)

variable (m : (ℓ : Loc nD τ sig) → Buf (Elt Ideal) ℓ)

/-- An entry of the panel a point computes is the entry of the scaled product that the panel's block holds. -/
theorem panel_apply (c : Dev nD) (t : Fin cfg0.N) (y) :
    panel m c t y = scaled (m ((c : Thread nD τ).loc main_arg0)) (m ((c : Thread nD τ).loc main_arg1))
      (m ((c : Thread nD τ).loc main_arg2)) (m ((c : Thread nD τ).loc main_arg3)) (((cfg0.win 4).blk t).view.emb y) := by
  unfold panel panelOf
  pointwise [k0_pay2, scaled]
  blk_point [iblk, V0, index0 t]

/-- So the array the region leaves is the scaled product. -/
theorem product_eq (c : Dev nD) : (dat0 m c).arrAt 4 cfg0.N
    = scaled (m ((c : Thread nD τ).loc main_arg0)) (m ((c : Thread nD τ).loc main_arg1))
      (m ((c : Thread nD τ).loc main_arg2)) (m ((c : Thread nD τ).loc main_arg3)) := by
  refine (dat0 m c).arrAt_eq_of_covers 4 _ (by decide +kernel) fun t _ y => ?_
  blk_simp
  rw [after0_4]
  exact panel_apply m c t y

/-- What each device stages for the exchange is its scaled product. -/
theorem staged_eq (c : Dev nD) : Ys m c
    = scaled (m ((c : Thread nD τ).loc main_arg0)) (m ((c : Thread nD τ).loc main_arg1))
      (m ((c : Thread nD τ).loc main_arg2)) (m ((c : Thread nD τ).loc main_arg3)) := by
  have h : U1 m c (Proc.devRef .tc main_v1) = (dat0 m c).arrAt 4 cfg0.N :=
    Pipeline.afterRegion_arr (dat0 m c) (V0 m c) winFacts0.arr_inj 4
  unfold Ys
  rw [h, product_eq]
  funext j
  blk_ext [index1 t1_0]

/-- An entry of a device's result: its row lies in some device's row block, its column in the device's own column block. -/
theorem gathered_apply (c : Dev nD) (i : S4096x1024.Idx) (p : Dev nD) (r : Fin 512) (j : Fin 8192)
    (hp : (i 0).val = 512 * p.val + r.val) (hj : j.val = 1024 * c.val + (i 1).val) :
    gathered (Ys m) c i
      = scaled (m ((p : Thread nD τ).loc main_arg0)) (m ((p : Thread nD τ).loc main_arg1))
          (m ((p : Thread nD τ).loc main_arg2)) (m ((p : Thread nD τ).loc main_arg3)) (ix2 r j) := by
  have hr := r.isLt
  have hd : (⟨(i 0).val / 512, by have h : (i 0).val < 4096 := (i 0).isLt; simp only [nD]; omega⟩ : Dev nD) = p :=
    Fin.ext (by show (i 0).val / 512 = p.val; omega)
  rw [← staged_eq]
  unfold gathered wide
  rw [Ideal.extf_def, hd]
  congr 1
  funext a
  match a with
  | ⟨0, _⟩ => exact Fin.ext (by show (i 0).val % 512 = r.val; omega)
  | ⟨1, _⟩ => exact Fin.ext hj.symm

end Cert.KernelIdeal.Exchange

end
-- ==== Proof.Answer.lean ====
/- What the reference leaves, at the ideal instance: the product of the whole operands, scaled, entry by entry. -/
module

public import proofs.«01_k».proof.Proof.Gen.ReferenceIdeal.Frame
public import Idealize.ShloMosaic.Lib.Claim
public import Idealize.ShloMosaic.Lib.Pipeline.ValueKit

@[expose] public section

set_option maxRecDepth 16384

noncomputable section

namespace Cert.ReferenceIdeal.Answer

open Idealize.ShloMosaic Idealize.ShloMosaic.TcCoe Idealize.SL.Sem
open Idealize.ShloMosaic.Pipeline (Dat)
open Cert.ReferenceIdeal Cert.ReferenceIdeal.Gen

/-- The product of the operands, scaled by both scales. -/
def answer (x : FVec Ideal S4096x4096 .fp8e5m2) (w : FVec Ideal S4096x8192 .fp8e5m2) (sx sw : FVec Ideal S1 .f32) :
    FVec Ideal S4096x8192 .f32 := fun i =>
  ((∑ k : Fin 4096, x (ix2 (i 0) k) * w (ix2 k (i 1)) : EReal) * (sx (ix1 0) * sw (ix1 0)) : EReal)

/-- The windows' blocks are their arrays. -/
theorem index0 : ∀ t : Fin cfg0.N, win0_0.index t = ![0, 0] ∧ win0_1.index t = ![0, 0] ∧ win0_2.index t = ![0, 0] :=
  (by decide +kernel : ∀ t : Fin grid0.N, _)

variable (m : (ℓ : Loc nD τ sig) → Buf (Elt Ideal) ℓ) (ρ : Dev nD → PrngReg)

/-- The region leaves the product of the operands. -/
theorem product_eq (c : Dev nD) : (dats m 0 c).arrAt 2 (cfgs 0).N
    = k0_pay1 (m ((c : Thread nD τ).loc main_arg0)) (m ((c : Thread nD τ).loc main_arg1)) := by
  refine (dats m 0 c).arrAt_eq_of_after_last 2 t0_0 (by decide +kernel) _ fun j => ?_
  blk_simp
  rw [after0_2]
  frame_out
  blk_point [iblk, V, index0 t0_0]

/-- The lines after the region scale the product. -/
theorem result_eq (c : Dev nD) : Pipeline.afterTail₀ cfgs (dats m) 0 (V0 m) [hostOps1] c main_v4
    = answer (m ((c : Thread nD τ).loc main_arg0)) (m ((c : Thread nD τ).loc main_arg1))
        (m ((c : Thread nD τ).loc main_arg2)) (m ((c : Thread nD τ).loc main_arg3)) := by
  unfold Pipeline.afterTail₀
  simp only [hostOps1, List.flatten_cons, List.flatten_nil, List.append_nil]
  after_results
  have h0 := (Pipeline.withArrays_arr spec0 launch0.win.arr_inj c (V0 m c) (fun w => (dats m 0 c).arrAt w cfg0.N) 2).trans (product_eq m c)
  have h2 := Pipeline.withArrays_of_ne spec0 c (V0 m c) (fun w => (dats m 0 c).arrAt w cfg0.N) main_arg2 (by exact (by decide : ∀ w, Pipeline.arrRef spec0 w ≠ main_arg2))
  have h3 := Pipeline.withArrays_of_ne spec0 c (V0 m c) (fun w => (dats m 0 c).arrAt w cfg0.N) main_arg3 (by exact (by decide : ∀ w, Pipeline.arrRef spec0 w ≠ main_arg3))
  rw [h0, h2, h3]
  funext j
  pointwise [k0_pay1, answer]
  rfl

/-- The reference's run: the result is the scaled product and the arguments are as they were. -/
theorem run : θ_run defs (onTc (τ := τ) (main (F := Ideal))) ⟨m, fun _ => 0, ρ⟩ (fun r =>
    r.2.mem (((0 : Dev nD).tc : Thread nD τ).loc main_v4)
        = answer (m (((0 : Dev nD).tc : Thread nD τ).loc main_arg0)) (m (((0 : Dev nD).tc : Thread nD τ).loc main_arg1))
            (m (((0 : Dev nD).tc : Thread nD τ).loc main_arg2)) (m (((0 : Dev nD).tc : Thread nD τ).loc main_arg3))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2)
      ∧ r.2.mem (((0 : Dev nD).tc : Thread nD τ).loc main_arg3) = m (((0 : Dev nD).tc : Thread nD τ).loc main_arg3)) := by
  refine (θ_run defs _ _).mono (fun r h => ⟨?_, h.2 0⟩) (θ_run_and (run_main m ρ) (unchanged m ρ))
  exact ((h.1 0).2 main_v4 (Pipeline.mem_restRefs_of main_v4 (by decide) (by decide))).trans (result_eq m 0)

end Cert.ReferenceIdeal.Answer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Launch
public import proofs.«01_k».proof.Proof.Value
public import proofs.«01_k».proof.Proof.Answer
public import Idealize.ShloMosaic.Adequacy
public import Idealize.ShloMosaic.Init

@[expose] public section

noncomputable section

namespace Cert.Proof

open Idealize.ShloMosaic Idealize.SL.Sem

section Shared

local instance : Cert.Kernel.Facts := Cert.Kernel.Gen.facts

local instance : Cert.KernelIdeal.Facts := Cert.KernelIdeal.Gen.facts

set_option maxRecDepth 65536 in
set_option maxHeartbeats 4000000 in
/-- The kernel's two bodies are the idealization's. -/
theorem bodies_eq : Cert.Kernel.defs₀ (F := Bits) = Cert.KernelIdeal.defs₀ (F := Bits) := by
  refine congrArg Defs.onTc ?_
  funext ℓ a
  match ℓ, a with
  | 0, (t, s) => rfl
  | 1, (t, s) => rfl
  | ⟨_ + 2, h⟩, _ => exact absurd h (Nat.not_lt.2 (Nat.le_add_left _ _))

set_option maxRecDepth 65536 in
set_option maxHeartbeats 4000000 in
/-- So the kernel's body table, pipelines and all, is the idealization's. -/
theorem table_eq : Cert.Kernel.defs (F := Bits) = Cert.KernelIdeal.defs (F := Bits) :=
  congrArg (Pipeline.defs (Cert.KernelIdeal.pcfgs (F := Bits))) bodies_eq

set_option maxRecDepth 65536 in
set_option maxHeartbeats 4000000 in
/-- The kernel's frame: its text is the idealization's, whose run is proved for any float values. -/
theorem frame_kernel : Cert.quiescent_Kernel (hKernel := Cert.Kernel.Gen.facts) := fun m ρ _ => by
  rw [table_eq]
  exact Cert.KernelIdeal.Exchange.run_frame (F := Bits) m ρ

end Shared

/-- The idealization's frame. -/
theorem frame_ideal : Cert.quiescent_KernelIdeal (hKernelIdeal := Cert.KernelIdeal.Gen.facts) := fun m ρ _ =>
  Cert.KernelIdeal.Exchange.run_frame m ρ

/-- The reference's frame. -/
theorem frame_reference : Cert.quiescent_ReferenceIdeal (hReferenceIdeal := Cert.ReferenceIdeal.Gen.facts) := fun m ρ _ =>
  Cert.ReferenceIdeal.Gen.frame m ρ

/-- Device `c`'s result is its column block of the reference's, when its rows are its row block of the reference's left operand and it
    has the other arguments whole. -/
theorem block_of_answer (m : (ℓ : Loc Cert.KernelIdeal.nD Cert.KernelIdeal.τ Cert.KernelIdeal.sig) → Buf (Elt Ideal) ℓ)
    (x : FVec Ideal Cert.ReferenceIdeal.S4096x4096 .fp8e5m2) (w : FVec Ideal Cert.ReferenceIdeal.S4096x8192 .fp8e5m2)
    (sx sw : FVec Ideal Cert.ReferenceIdeal.S1 .f32)
    (h : ∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c x
      ∧ m ((c.tc : Thread Cert.KernelIdeal.nD Cert.KernelIdeal.τ).loc Cert.KernelIdeal.main_arg1) = w
      ∧ m ((c.tc : Thread Cert.KernelIdeal.nD Cert.KernelIdeal.τ).loc Cert.KernelIdeal.main_arg2) = sx
      ∧ m ((c.tc : Thread Cert.KernelIdeal.nD Cert.KernelIdeal.τ).loc Cert.KernelIdeal.main_arg3) = sw)
    (c : Dev Cert.KernelIdeal.nD) :
    Cert.KernelIdeal.Exchange.gathered (Cert.KernelIdeal.Exchange.Ys m) c
      = Layout.block ⟨2, ![4096, 1024]⟩ ⟨2, ![4096, 8192]⟩ 1 8 c (Cert.ReferenceIdeal.Answer.answer x w sx sw) := by
  funext i
  have h0 : (i 0).val < 4096 := (i 0).isLt
  have h1 : (i 1).val < 1024 := (i 1).isLt
  have hc : c.val < 8 := c.isLt
  have hp : (i 0).val / 512 < 8 := by omega
  obtain ⟨hx, hw, hsx, hsw⟩ := h ⟨(i 0).val / 512, hp⟩
  rw [Cert.KernelIdeal.Exchange.gathered_apply m c i ⟨(i 0).val / 512, hp⟩ ⟨(i 0).val % 512, Nat.mod_lt _ (by decide)⟩
    ⟨1024 * c.val + (i 1).val, by omega⟩ (by show (i 0).val = 512 * ((i 0).val / 512) + (i 0).val % 512; omega) rfl, hx, hw, hsx, hsw]
  rw [Layout.block_apply]
  unfold Cert.KernelIdeal.Exchange.scaled Cert.ReferenceIdeal.Answer.answer
  refine congrArg₂ (fun a b : EReal => a * b) (Finset.sum_congr rfl fun k _ => congrArg₂ (fun a b : EReal => a * b) ?_ ?_) rfl
  · refine congrArg x (funext fun a => ?_)
    match a with
    | ⟨0, _⟩ => exact Fin.ext (by show (i 0).val / 512 * 512 + (i 0).val % 512 = (i 0).val; omega)
    | ⟨1, _⟩ => rfl
  · refine congrArg w (funext fun a => ?_)
    match a with
    | ⟨0, _⟩ => rfl
    | ⟨1, _⟩ => exact Fin.ext (by show 1024 * c.val + (i 1).val = c.val * 1024 + (i 1).val; omega)

/-- Over the extended reals the kernel and the reference compute the same function. -/
theorem algebraic : Cert.algebraic_KernelIdeal_ReferenceIdeal (hKernelIdeal := Cert.KernelIdeal.Gen.facts)
    (hReferenceIdeal := Cert.ReferenceIdeal.Gen.facts) := fun m g m' g' _ h =>
  ⟨_, (θ_run Cert.KernelIdeal.defs _ _).mono (fun _ hr c => ⟨((hr.1 c).2).trans (block_of_answer m _ _ _ _ h c), (hr.1 c).1⟩)
      (Cert.KernelIdeal.Exchange.run_values (F := Ideal) m g),
    Cert.ReferenceIdeal.Answer.run m' g'⟩

/-- The claims, under the side conditions the generated modules prove. -/
theorem claim : Cert.Claim := ⟨Cert.Kernel.Gen.facts, Cert.KernelIdeal.Gen.facts, Cert.ReferenceIdeal.Gen.facts,
  frame_kernel, frame_ideal, frame_reference, trivial, algebraic⟩

end Cert.Proof

end
